-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v199)) (v1 : (c : Dev Cert.KernelIdeal.nD) → Buf (Elt Ideal) ((c.tc : Thread Cert.KernelIdeal.nD Cert.KernelIdeal.τ).loc Cert.KernelIdeal.main_v231)) (v2 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_v231) = v1 c
          ∧ r.2.mem ((c.tc : Thread Cert.KernelIdeal.nD Cert.KernelIdeal.τ).loc Cert.KernelIdeal.main_v233) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_v353) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S20000x128 : Shape := ⟨2, ![20000, 128]⟩
abbrev S100000x128 : Shape := ⟨2, ![100000, 128]⟩
abbrev S256x1 : Shape := ⟨2, ![256, 1]⟩
abbrev S1 : Shape := ⟨1, ![1]⟩
abbrev S100000 : Shape := ⟨1, ![100000]⟩
abbrev S500000 : Shape := ⟨1, ![500000]⟩
abbrev S20128x128 : Shape := ⟨2, ![20128, 128]⟩
abbrev S120000x128 : Shape := ⟨2, ![120000, 128]⟩
abbrev S_ : Shape := ⟨0, ![]⟩
abbrev S20480x128 : Shape := ⟨2, ![20480, 128]⟩
abbrev S128x1 : Shape := ⟨2, ![128, 1]⟩
abbrev S128x126 : Shape := ⟨2, ![128, 126]⟩
abbrev S2048x128 : Shape := ⟨2, ![2048, 128]⟩
abbrev S20128x1 : Shape := ⟨2, ![20128, 1]⟩
abbrev S20128 : Shape := ⟨1, ![20128]⟩
abbrev S120832x128 : Shape := ⟨2, ![120832, 128]⟩
abbrev S120000x1 : Shape := ⟨2, ![120000, 1]⟩
abbrev S120000 : Shape := ⟨1, ![120000]⟩
abbrev S20128x130 : Shape := ⟨2, ![20128, 130]⟩
abbrev S100000x1 : Shape := ⟨2, ![100000, 1]⟩
abbrev S100000x130 : Shape := ⟨2, ![100000, 130]⟩
abbrev S100000x129 : Shape := ⟨2, ![100000, 129]⟩
abbrev S20128x129 : Shape := ⟨2, ![20128, 129]⟩
abbrev S120000x130 : Shape := ⟨2, ![120000, 130]⟩
abbrev S500000x1 : Shape := ⟨2, ![500000, 1]⟩
abbrev S500000x130 : Shape := ⟨2, ![500000, 130]⟩
abbrev S500000x129 : Shape := ⟨2, ![500000, 129]⟩
abbrev S120000x129 : Shape := ⟨2, ![120000, 129]⟩
abbrev S128x256 : Shape := ⟨2, ![128, 256]⟩
abbrev S1x1 : Shape := ⟨2, ![1, 1]⟩
abbrev S128 : Shape := ⟨1, ![128]⟩
abbrev S20000x256 : Shape := ⟨2, ![20000, 256]⟩
abbrev S20000x1 : Shape := ⟨2, ![20000, 1]⟩
abbrev S20000x2 : Shape := ⟨2, ![20000, 2]⟩
abbrev S20000 : Shape := ⟨1, ![20000]⟩

abbrev nBuf : Space → Nat
  | .hbm => 335
  | .vmem => 28
  | .smem => 0
  | _ => 0

abbrev hbmTy0_0 (i : Nat) : BufTy := match i % 128 with
  | 0 => ⟨S128x128, .f32⟩
  | 1 => ⟨S20000x128, .f32⟩
  | 2 => ⟨S100000x128, .f32⟩
  | 3 => ⟨S128x128, .f32⟩
  | 4 => ⟨S256x1, .f32⟩
  | 5 => ⟨S128x128, .f32⟩
  | 6 => ⟨S256x1, .f32⟩
  | 7 => ⟨S128x128, .f32⟩
  | 8 => ⟨S256x1, .f32⟩
  | 9 => ⟨S128x128, .f32⟩
  | 10 => ⟨S256x1, .f32⟩
  | 11 => ⟨S256x1, .f32⟩
  | 12 => ⟨S1, .f32⟩
  | 13 => ⟨S256x1, .f32⟩
  | 14 => ⟨S1, .f32⟩
  | 15 => ⟨S256x1, .f32⟩
  | 16 => ⟨S1, .f32⟩
  | 17 => ⟨S100000, .i32⟩
  | 18 => ⟨S100000, .i32⟩
  | 19 => ⟨S100000, .i32⟩
  | 20 => ⟨S100000, .i32⟩
  | 21 => ⟨S500000, .i32⟩
  | 22 => ⟨S500000, .i32⟩
  | 23 => ⟨S500000, .i32⟩
  | 24 => ⟨S500000, .i32⟩
  | 25 => ⟨S20128x128, .f32⟩
  | 26 => ⟨S120000x128, .f32⟩
  | 27 => ⟨S_, .i32⟩
  | 28 => ⟨S_, .f32⟩
  | 29 => ⟨S20480x128, .f32⟩
  | 30 => ⟨S128x1, .f32⟩
  | 31 => ⟨S128x1, .f32⟩
  | 32 => ⟨S_, .f32⟩
  | 33 => ⟨S128x126, .f32⟩
  | 34 => ⟨S128x128, .f32⟩
  | 35 => ⟨S128x1, .f32⟩
  | 36 => ⟨S128x1, .f32⟩
  | 37 => ⟨S_, .f32⟩
  | 38 => ⟨S128x126, .f32⟩
  | 39 => ⟨S128x128, .f32⟩
  | 40 => ⟨S20480x128, .f32⟩
  | 41 => ⟨S20480x128, .f32⟩
  | 42 => ⟨S20480x128, .f32⟩
  | 43 => ⟨S20480x128, .f32⟩
  | 44 => ⟨S20128x128, .f32⟩
  | 45 => ⟨S20128x128, .f32⟩
  | 46 => ⟨S20128x1, .f32⟩
  | 47 => ⟨S20128, .f32⟩
  | 48 => ⟨S20128x1, .f32⟩
  | 49 => ⟨S20128, .f32⟩
  | 50 => ⟨S20128x1, .f32⟩
  | 51 => ⟨S20128, .f32⟩
  | 52 => ⟨S20128x1, .f32⟩
  | 53 => ⟨S20128, .f32⟩
  | 54 => ⟨S_, .i32⟩
  | 55 => ⟨S_, .f32⟩
  | 56 => ⟨S120832x128, .f32⟩
  | 57 => ⟨S128x1, .f32⟩
  | 58 => ⟨S128x1, .f32⟩
  | 59 => ⟨S_, .f32⟩
  | 60 => ⟨S128x126, .f32⟩
  | 61 => ⟨S128x128, .f32⟩
  | 62 => ⟨S128x1, .f32⟩
  | 63 => ⟨S128x1, .f32⟩
  | 64 => ⟨S_, .f32⟩
  | 65 => ⟨S128x126, .f32⟩
  | 66 => ⟨S128x128, .f32⟩
  | 67 => ⟨S120832x128, .f32⟩
  | 68 => ⟨S120832x128, .f32⟩
  | 69 => ⟨S120832x128, .f32⟩
  | 70 => ⟨S120832x128, .f32⟩
  | 71 => ⟨S120000x128, .f32⟩
  | 72 => ⟨S120000x128, .f32⟩
  | 73 => ⟨S120000x1, .f32⟩
  | 74 => ⟨S120000, .f32⟩
  | 75 => ⟨S120000x1, .f32⟩
  | 76 => ⟨S120000, .f32⟩
  | 77 => ⟨S120000x1, .f32⟩
  | 78 => ⟨S120000, .f32⟩
  | 79 => ⟨S120000x1, .f32⟩
  | 80 => ⟨S120000, .f32⟩
  | 81 => ⟨S_, .f32⟩
  | 82 => ⟨S20128x1, .f32⟩
  | 83 => ⟨S20128x1, .f32⟩
  | 84 => ⟨S20128x130, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000x130, .f32⟩
  | 94 => ⟨S100000x1, .f32⟩
  | 95 => ⟨S100000, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000, .f32⟩
  | 105 => ⟨S100000, .f32⟩
  | 106 => ⟨S_, .f32⟩
  | 107 => ⟨S_, .f32⟩
  | 108 => ⟨S100000, .f32⟩
  | 109 => ⟨S100000, .i1⟩
  | 110 => ⟨S_, .f32⟩
  | 111 => ⟨S100000, .f32⟩
  | 112 => ⟨S100000, .f32⟩
  | 113 => ⟨S100000, .f32⟩
  | 114 => ⟨S100000, .f32⟩
  | 115 => ⟨S100000x1, .f32⟩
  | 116 => ⟨S100000x129, .f32⟩
  | 117 => ⟨S100000x129, .f32⟩
  | 118 => ⟨S100000x129, .f32⟩
  | 119 => ⟨S_, .f32⟩
  | 120 => ⟨S20128x129, .f32⟩
  | 121 => ⟨S100000x1, .i32⟩
  | 122 => ⟨S20128x129, .f32⟩
  | 123 => ⟨S20128x128, .f32⟩
  | 124 => ⟨S20128x1, .f32⟩
  | 125 => ⟨S_, .f32⟩
  | 126 => ⟨S20128x1, .f32⟩
  | 127 => ⟨S20128x1, .f32⟩
  | _ => ⟨S128x128, .f32⟩

abbrev hbmTy0_1 (i : Nat) : BufTy := match i % 128 with
  | 0 => ⟨S20128x128, .f32⟩
  | 1 => ⟨S20128x128, .f32⟩
  | 2 => ⟨S_, .f32⟩
  | 3 => ⟨S20128x1, .f32⟩
  | 4 => ⟨S20128x1, .f32⟩
  | 5 => ⟨S20128x130, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x130, .f32⟩
  | 15 => ⟨S100000x1, .f32⟩
  | 16 => ⟨S100000, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000, .f32⟩
  | 26 => ⟨S100000, .f32⟩
  | 27 => ⟨S_, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S100000, .f32⟩
  | 36 => ⟨S100000x1, .f32⟩
  | 37 => ⟨S100000x129, .f32⟩
  | 38 => ⟨S100000x129, .f32⟩
  | 39 => ⟨S100000x129, .f32⟩
  | 40 => ⟨S_, .f32⟩
  | 41 => ⟨S20128x129, .f32⟩
  | 42 => ⟨S100000x1, .i32⟩
  | 43 => ⟨S20128x129, .f32⟩
  | 44 => ⟨S20128x128, .f32⟩
  | 45 => ⟨S20128x1, .f32⟩
  | 46 => ⟨S_, .f32⟩
  | 47 => ⟨S20128x1, .f32⟩
  | 48 => ⟨S20128x1, .f32⟩
  | 49 => ⟨S20128x128, .f32⟩
  | 50 => ⟨S20128x128, .f32⟩
  | 51 => ⟨S_, .f32⟩
  | 52 => ⟨S120000x1, .f32⟩
  | 53 => ⟨S120000x1, .f32⟩
  | 54 => ⟨S120000x130, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x130, .f32⟩
  | 64 => ⟨S500000x1, .f32⟩
  | 65 => ⟨S500000, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000, .f32⟩
  | 75 => ⟨S500000, .f32⟩
  | 76 => ⟨S_, .f32⟩
  | 77 => ⟨S_, .f32⟩
  | 78 => ⟨S500000, .f32⟩
  | 79 => ⟨S500000, .i1⟩
  | 80 => ⟨S_, .f32⟩
  | 81 => ⟨S500000, .f32⟩
  | 82 => ⟨S500000, .f32⟩
  | 83 => ⟨S500000, .f32⟩
  | 84 => ⟨S500000, .f32⟩
  | 85 => ⟨S500000x1, .f32⟩
  | 86 => ⟨S500000x129, .f32⟩
  | 87 => ⟨S500000x129, .f32⟩
  | 88 => ⟨S500000x129, .f32⟩
  | 89 => ⟨S_, .f32⟩
  | 90 => ⟨S120000x129, .f32⟩
  | 91 => ⟨S500000x1, .i32⟩
  | 92 => ⟨S120000x129, .f32⟩
  | 93 => ⟨S120000x128, .f32⟩
  | 94 => ⟨S120000x1, .f32⟩
  | 95 => ⟨S_, .f32⟩
  | 96 => ⟨S120000x1, .f32⟩
  | 97 => ⟨S120000x1, .f32⟩
  | 98 => ⟨S120000x128, .f32⟩
  | 99 => ⟨S120000x128, .f32⟩
  | 100 => ⟨S_, .f32⟩
  | 101 => ⟨S120000x1, .f32⟩
  | 102 => ⟨S120000x1, .f32⟩
  | 103 => ⟨S120000x130, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x130, .f32⟩
  | 113 => ⟨S500000x1, .f32⟩
  | 114 => ⟨S500000, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000, .f32⟩
  | 124 => ⟨S500000, .f32⟩
  | 125 => ⟨S_, .f32⟩
  | 126 => ⟨S_, .f32⟩
  | 127 => ⟨S500000, .f32⟩
  | _ => ⟨S128x128, .f32⟩

abbrev hbmTy0_2 (i : Nat) : BufTy := match i % 128 with
  | 0 => ⟨S500000, .i1⟩
  | 1 => ⟨S_, .f32⟩
  | 2 => ⟨S500000, .f32⟩
  | 3 => ⟨S500000, .f32⟩
  | 4 => ⟨S500000, .f32⟩
  | 5 => ⟨S500000, .f32⟩
  | 6 => ⟨S500000x1, .f32⟩
  | 7 => ⟨S500000x129, .f32⟩
  | 8 => ⟨S500000x129, .f32⟩
  | 9 => ⟨S500000x129, .f32⟩
  | 10 => ⟨S_, .f32⟩
  | 11 => ⟨S120000x129, .f32⟩
  | 12 => ⟨S500000x1, .i32⟩
  | 13 => ⟨S120000x129, .f32⟩
  | 14 => ⟨S120000x128, .f32⟩
  | 15 => ⟨S120000x1, .f32⟩
  | 16 => ⟨S_, .f32⟩
  | 17 => ⟨S120000x1, .f32⟩
  | 18 => ⟨S120000x1, .f32⟩
  | 19 => ⟨S120000x128, .f32⟩
  | 20 => ⟨S120000x128, .f32⟩
  | 21 => ⟨S128x128, .f32⟩
  | 22 => ⟨S128x256, .f32⟩
  | 23 => ⟨S128x1, .f32⟩
  | 24 => ⟨S1x1, .f32⟩
  | 25 => ⟨S128x1, .f32⟩
  | 26 => ⟨S128x1, .f32⟩
  | 27 => ⟨S_, .f32⟩
  | 28 => ⟨S128, .f32⟩
  | 29 => ⟨S_, .f32⟩
  | 30 => ⟨S128, .f32⟩
  | 31 => ⟨S128, .f32⟩
  | 32 => ⟨S128x1, .f32⟩
  | 33 => ⟨S128x1, .f32⟩
  | 34 => ⟨S128x1, .f32⟩
  | 35 => ⟨S_, .f32⟩
  | 36 => ⟨S128, .f32⟩
  | 37 => ⟨S128x1, .f32⟩
  | 38 => ⟨S128x1, .f32⟩
  | 39 => ⟨S128x128, .f32⟩
  | 40 => ⟨S128x128, .f32⟩
  | 41 => ⟨S128x128, .f32⟩
  | 42 => ⟨S20000x128, .f32⟩
  | 43 => ⟨S20000x128, .f32⟩
  | 44 => ⟨S20000x256, .f32⟩
  | 45 => ⟨S20000x1, .f32⟩
  | 46 => ⟨S1x1, .f32⟩
  | 47 => ⟨S20000x1, .f32⟩
  | 48 => ⟨S20000x1, .f32⟩
  | 49 => ⟨S20000x256, .f32⟩
  | 50 => ⟨S20000x1, .f32⟩
  | 51 => ⟨S1x1, .f32⟩
  | 52 => ⟨S20000x1, .f32⟩
  | 53 => ⟨S20000x1, .f32⟩
  | 54 => ⟨S20000x2, .f32⟩
  | 55 => ⟨S_, .f32⟩
  | 56 => ⟨S20000, .f32⟩
  | 57 => ⟨S_, .f32⟩
  | 58 => ⟨S20000, .f32⟩
  | 59 => ⟨S20000, .f32⟩
  | 60 => ⟨S20000x1, .f32⟩
  | 61 => ⟨S20000x2, .f32⟩
  | 62 => ⟨S20000x2, .f32⟩
  | 63 => ⟨S20000x2, .f32⟩
  | 64 => ⟨S_, .f32⟩
  | 65 => ⟨S20000, .f32⟩
  | 66 => ⟨S20000x1, .f32⟩
  | 67 => ⟨S20000x2, .f32⟩
  | 68 => ⟨S20000x2, .f32⟩
  | 69 => ⟨S20000x1, .f32⟩
  | 70 => ⟨S20000x128, .f32⟩
  | 71 => ⟨S20000x128, .f32⟩
  | 72 => ⟨S20000x128, .f32⟩
  | 73 => ⟨S20000x1, .f32⟩
  | 74 => ⟨S20000x128, .f32⟩
  | 75 => ⟨S20000x128, .f32⟩
  | 76 => ⟨S20000x128, .f32⟩
  | 77 => ⟨S100000x128, .f32⟩
  | 78 => ⟨S100000x128, .f32⟩
  | _ => ⟨S128x128, .f32⟩

abbrev hbmTy (i : Nat) : BufTy := match i / 128 with
  | 0 => hbmTy0_0 i
  | 1 => hbmTy0_1 i
  | 2 => hbmTy0_2 i
  | _ => ⟨S128x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_call0_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11_0 : Ref sig .tc := ⟨.hbm, 40, rfl⟩
abbrev main_v11_1 : Ref sig .tc := ⟨.hbm, 41, rfl⟩
abbrev main_v11_2 : Ref sig .tc := ⟨.hbm, 42, rfl⟩
abbrev main_v11_3 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_call1_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31_0 : Ref sig .tc := ⟨.hbm, 67, rfl⟩
abbrev main_v31_1 : Ref sig .tc := ⟨.hbm, 68, rfl⟩
abbrev main_v31_2 : Ref sig .tc := ⟨.hbm, 69, rfl⟩
abbrev main_v31_3 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_4 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_5 : Ref sig .tc := ⟨.hbm, 85, rfl⟩
abbrev main_v45 : Ref sig .tc := ⟨.hbm, 86, rfl⟩
abbrev main_v46 : Ref sig .tc := ⟨.hbm, 87, rfl⟩
abbrev main_c_6 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_7 : Ref sig .tc := ⟨.hbm, 96, rfl⟩
abbrev main_v54 : Ref sig .tc := ⟨.hbm, 97, rfl⟩
abbrev main_v55 : Ref sig .tc := ⟨.hbm, 98, rfl⟩
abbrev main_c_8 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_9 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_10 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_11 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_12 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_c_14 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_c_15 : Ref sig .tc := ⟨.hbm, 145, rfl⟩
abbrev main_v89 : Ref sig .tc := ⟨.hbm, 146, rfl⟩
abbrev main_v90 : Ref sig .tc := ⟨.hbm, 147, rfl⟩
abbrev main_c_16 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_17 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_18 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_19 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_cst_20 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_21 : Ref sig .tc := ⟨.hbm, 183, rfl⟩
abbrev main_v115 : Ref sig .tc := ⟨.hbm, 184, rfl⟩
abbrev main_v116 : Ref sig .tc := ⟨.hbm, 185, rfl⟩
abbrev main_c_22 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_c_23 : Ref sig .tc := ⟨.hbm, 194, rfl⟩
abbrev main_v124 : Ref sig .tc := ⟨.hbm, 195, rfl⟩
abbrev main_v125 : Ref sig .tc := ⟨.hbm, 196, rfl⟩
abbrev main_c_24 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_25 : Ref sig .tc := ⟨.hbm, 204, rfl⟩
abbrev main_call4_cst : Ref sig .tc := ⟨.hbm, 205, rfl⟩
abbrev main_call4_v0 : Ref sig .tc := ⟨.hbm, 206, rfl⟩
abbrev main_call4_v1 : Ref sig .tc := ⟨.hbm, 207, rfl⟩
abbrev main_call4_v2 : Ref sig .tc := ⟨.hbm, 208, rfl⟩
abbrev main_call4_v3 : Ref sig .tc := ⟨.hbm, 209, rfl⟩
abbrev main_call4_v4 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_26 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_cst_27 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_cst_28 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_c_29 : Ref sig .tc := ⟨.hbm, 232, rfl⟩
abbrev main_v150 : Ref sig .tc := ⟨.hbm, 233, rfl⟩
abbrev main_v151 : Ref sig .tc := ⟨.hbm, 234, rfl⟩
abbrev main_c_30 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_c_31 : Ref sig .tc := ⟨.hbm, 243, rfl⟩
abbrev main_v159 : Ref sig .tc := ⟨.hbm, 244, rfl⟩
abbrev main_v160 : Ref sig .tc := ⟨.hbm, 245, rfl⟩
abbrev main_c_32 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_cst_33 : Ref sig .tc := ⟨.hbm, 253, rfl⟩
abbrev main_call5_cst : Ref sig .tc := ⟨.hbm, 254, rfl⟩
abbrev main_call5_v0 : Ref sig .tc := ⟨.hbm, 255, rfl⟩
abbrev main_call5_v1 : Ref sig .tc := ⟨.hbm, 256, rfl⟩
abbrev main_call5_v2 : Ref sig .tc := ⟨.hbm, 257, rfl⟩
abbrev main_call5_v3 : Ref sig .tc := ⟨.hbm, 258, rfl⟩
abbrev main_call5_v4 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_cst_34 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_cst_35 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_cst_36 : Ref sig .tc := ⟨.hbm, 283, rfl⟩
abbrev main_v188 : Ref sig .tc := ⟨.hbm, 284, rfl⟩
abbrev main_cst_37 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_38 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_cst_39 : Ref sig .tc := ⟨.hbm, 311, rfl⟩
abbrev main_v213 : Ref sig .tc := ⟨.hbm, 312, rfl⟩
abbrev main_cst_40 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_41 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![59], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S128x128 : Shape := ⟨2, ![128, 128]⟩
abbrev S20000x128 : Shape := ⟨2, ![20000, 128]⟩
abbrev S100000x128 : Shape := ⟨2, ![100000, 128]⟩
abbrev S256x1 : Shape := ⟨2, ![256, 1]⟩
abbrev S1 : Shape := ⟨1, ![1]⟩
abbrev S100000 : Shape := ⟨1, ![100000]⟩
abbrev S500000 : Shape := ⟨1, ![500000]⟩
abbrev S20128x128 : Shape := ⟨2, ![20128, 128]⟩
abbrev S_ : Shape := ⟨0, ![]⟩
abbrev S100000x1 : Shape := ⟨2, ![100000, 1]⟩
abbrev S100000x256 : Shape := ⟨2, ![100000, 256]⟩
abbrev S20128x100000 : Shape := ⟨2, ![20128, 100000]⟩
abbrev S1x100000 : Shape := ⟨2, ![1, 100000]⟩
abbrev S20128 : Shape := ⟨1, ![20128]⟩
abbrev S120000x128 : Shape := ⟨2, ![120000, 128]⟩
abbrev S500000x1 : Shape := ⟨2, ![500000, 1]⟩
abbrev S500000x128 : Shape := ⟨2, ![500000, 128]⟩
abbrev S500000x256 : Shape := ⟨2, ![500000, 256]⟩
abbrev S120000x500000 : Shape := ⟨2, ![120000, 500000]⟩
abbrev S1x500000 : Shape := ⟨2, ![1, 500000]⟩
abbrev S120000 : Shape := ⟨1, ![120000]⟩
abbrev S128x256 : Shape := ⟨2, ![128, 256]⟩
abbrev S128x1 : Shape := ⟨2, ![128, 1]⟩
abbrev S1x1 : Shape := ⟨2, ![1, 1]⟩
abbrev S128 : Shape := ⟨1, ![128]⟩
abbrev S20000x256 : Shape := ⟨2, ![20000, 256]⟩
abbrev S20000x1 : Shape := ⟨2, ![20000, 1]⟩
abbrev S20000x2 : Shape := ⟨2, ![20000, 2]⟩
abbrev S20000 : Shape := ⟨1, ![20000]⟩

abbrev nBuf : Space → Nat
  | .hbm => 509
  | .vmem => 0
  | .smem => 0
  | _ => 0

abbrev hbmTy0_0 (i : Nat) : BufTy := match i % 128 with
  | 0 => ⟨S128x128, .f32⟩
  | 1 => ⟨S20000x128, .f32⟩
  | 2 => ⟨S100000x128, .f32⟩
  | 3 => ⟨S128x128, .f32⟩
  | 4 => ⟨S256x1, .f32⟩
  | 5 => ⟨S128x128, .f32⟩
  | 6 => ⟨S256x1, .f32⟩
  | 7 => ⟨S128x128, .f32⟩
  | 8 => ⟨S256x1, .f32⟩
  | 9 => ⟨S128x128, .f32⟩
  | 10 => ⟨S256x1, .f32⟩
  | 11 => ⟨S256x1, .f32⟩
  | 12 => ⟨S1, .f32⟩
  | 13 => ⟨S256x1, .f32⟩
  | 14 => ⟨S1, .f32⟩
  | 15 => ⟨S256x1, .f32⟩
  | 16 => ⟨S1, .f32⟩
  | 17 => ⟨S100000, .i32⟩
  | 18 => ⟨S100000, .i32⟩
  | 19 => ⟨S100000, .i32⟩
  | 20 => ⟨S100000, .i32⟩
  | 21 => ⟨S500000, .i32⟩
  | 22 => ⟨S500000, .i32⟩
  | 23 => ⟨S500000, .i32⟩
  | 24 => ⟨S500000, .i32⟩
  | 25 => ⟨S20128x128, .f32⟩
  | 26 => ⟨S20128x128, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x128, .f32⟩
  | 45 => ⟨S100000x256, .f32⟩
  | 46 => ⟨S100000x1, .f32⟩
  | 47 => ⟨S_, .f32⟩
  | 48 => ⟨S_, .f32⟩
  | 49 => ⟨S100000x1, .f32⟩
  | 50 => ⟨S100000x1, .i1⟩
  | 51 => ⟨S_, .f32⟩
  | 52 => ⟨S100000x1, .f32⟩
  | 53 => ⟨S100000x1, .f32⟩
  | 54 => ⟨S100000x1, .f32⟩
  | 55 => ⟨S100000, .f32⟩
  | 56 => ⟨S20128x100000, .i32⟩
  | 57 => ⟨S1x100000, .i32⟩
  | 58 => ⟨S20128x100000, .i32⟩
  | 59 => ⟨S20128x100000, .i1⟩
  | 60 => ⟨S1x100000, .f32⟩
  | 61 => ⟨S_, .f32⟩
  | 62 => ⟨S_, .f32⟩
  | 63 => ⟨S20128x100000, .f32⟩
  | 64 => ⟨S20128x100000, .f32⟩
  | 65 => ⟨S20128x100000, .f32⟩
  | 66 => ⟨S_, .f32⟩
  | 67 => ⟨S20128, .f32⟩
  | 68 => ⟨S20128, .f32⟩
  | 69 => ⟨S_, .f32⟩
  | 70 => ⟨S20128, .f32⟩
  | 71 => ⟨S20128, .i1⟩
  | 72 => ⟨S_, .f32⟩
  | 73 => ⟨S_, .f32⟩
  | 74 => ⟨S20128, .f32⟩
  | 75 => ⟨S20128, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000, .f32⟩
  | 85 => ⟨S100000, .f32⟩
  | 86 => ⟨S100000, .f32⟩
  | 87 => ⟨S_, .f32⟩
  | 88 => ⟨S20128, .f32⟩
  | 89 => ⟨S100000x1, .i32⟩
  | 90 => ⟨S20128, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000, .f32⟩
  | 109 => ⟨S100000, .f32⟩
  | 110 => ⟨S100000, .f32⟩
  | 111 => ⟨S_, .f32⟩
  | 112 => ⟨S100000, .f32⟩
  | 113 => ⟨S100000, .f32⟩
  | 114 => ⟨S100000, .f32⟩
  | 115 => ⟨S100000, .f32⟩
  | 116 => ⟨S100000x1, .f32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .f32⟩
  | 126 => ⟨S100000x128, .f32⟩
  | 127 => ⟨S100000x128, .f32⟩
  | _ => ⟨S128x128, .f32⟩

abbrev hbmTy0_1 (i : Nat) : BufTy := match i % 128 with
  | 0 => ⟨S_, .f32⟩
  | 1 => ⟨S20128x128, .f32⟩
  | 2 => ⟨S100000x1, .i32⟩
  | 3 => ⟨S20128x128, .f32⟩
  | 4 => ⟨S20128x128, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x128, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x256, .f32⟩
  | 24 => ⟨S100000x1, .f32⟩
  | 25 => ⟨S_, .f32⟩
  | 26 => ⟨S_, .f32⟩
  | 27 => ⟨S100000x1, .f32⟩
  | 28 => ⟨S100000x1, .i1⟩
  | 29 => ⟨S_, .f32⟩
  | 30 => ⟨S100000x1, .f32⟩
  | 31 => ⟨S100000x1, .f32⟩
  | 32 => ⟨S100000x1, .f32⟩
  | 33 => ⟨S100000, .f32⟩
  | 34 => ⟨S20128x100000, .i32⟩
  | 35 => ⟨S1x100000, .i32⟩
  | 36 => ⟨S20128x100000, .i32⟩
  | 37 => ⟨S20128x100000, .i1⟩
  | 38 => ⟨S1x100000, .f32⟩
  | 39 => ⟨S_, .f32⟩
  | 40 => ⟨S_, .f32⟩
  | 41 => ⟨S20128x100000, .f32⟩
  | 42 => ⟨S20128x100000, .f32⟩
  | 43 => ⟨S20128x100000, .f32⟩
  | 44 => ⟨S_, .f32⟩
  | 45 => ⟨S20128, .f32⟩
  | 46 => ⟨S20128, .f32⟩
  | 47 => ⟨S_, .f32⟩
  | 48 => ⟨S20128, .f32⟩
  | 49 => ⟨S20128, .i1⟩
  | 50 => ⟨S_, .f32⟩
  | 51 => ⟨S_, .f32⟩
  | 52 => ⟨S20128, .f32⟩
  | 53 => ⟨S20128, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000, .f32⟩
  | 63 => ⟨S100000, .f32⟩
  | 64 => ⟨S100000, .f32⟩
  | 65 => ⟨S_, .f32⟩
  | 66 => ⟨S20128, .f32⟩
  | 67 => ⟨S100000x1, .i32⟩
  | 68 => ⟨S20128, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000, .f32⟩
  | 93 => ⟨S100000, .f32⟩
  | 94 => ⟨S100000x1, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x128, .f32⟩
  | 104 => ⟨S100000x128, .f32⟩
  | 105 => ⟨S100000x128, .f32⟩
  | 106 => ⟨S_, .f32⟩
  | 107 => ⟨S20128x128, .f32⟩
  | 108 => ⟨S100000x1, .i32⟩
  | 109 => ⟨S20128x128, .f32⟩
  | 110 => ⟨S120000x128, .f32⟩
  | 111 => ⟨S120000x128, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S128x128, .f32⟩

abbrev hbmTy0_2 (i : Nat) : BufTy := match i % 128 with
  | 0 => ⟨S500000x1, .i32⟩
  | 1 => ⟨S500000x128, .f32⟩
  | 2 => ⟨S500000x256, .f32⟩
  | 3 => ⟨S500000x1, .f32⟩
  | 4 => ⟨S_, .f32⟩
  | 5 => ⟨S_, .f32⟩
  | 6 => ⟨S500000x1, .f32⟩
  | 7 => ⟨S500000x1, .i1⟩
  | 8 => ⟨S_, .f32⟩
  | 9 => ⟨S500000x1, .f32⟩
  | 10 => ⟨S500000x1, .f32⟩
  | 11 => ⟨S500000x1, .f32⟩
  | 12 => ⟨S500000, .f32⟩
  | 13 => ⟨S120000x500000, .i32⟩
  | 14 => ⟨S1x500000, .i32⟩
  | 15 => ⟨S120000x500000, .i32⟩
  | 16 => ⟨S120000x500000, .i1⟩
  | 17 => ⟨S1x500000, .f32⟩
  | 18 => ⟨S_, .f32⟩
  | 19 => ⟨S_, .f32⟩
  | 20 => ⟨S120000x500000, .f32⟩
  | 21 => ⟨S120000x500000, .f32⟩
  | 22 => ⟨S120000x500000, .f32⟩
  | 23 => ⟨S_, .f32⟩
  | 24 => ⟨S120000, .f32⟩
  | 25 => ⟨S120000, .f32⟩
  | 26 => ⟨S_, .f32⟩
  | 27 => ⟨S120000, .f32⟩
  | 28 => ⟨S120000, .i1⟩
  | 29 => ⟨S_, .f32⟩
  | 30 => ⟨S_, .f32⟩
  | 31 => ⟨S120000, .f32⟩
  | 32 => ⟨S120000, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000, .f32⟩
  | 42 => ⟨S500000, .f32⟩
  | 43 => ⟨S500000, .f32⟩
  | 44 => ⟨S_, .f32⟩
  | 45 => ⟨S120000, .f32⟩
  | 46 => ⟨S500000x1, .i32⟩
  | 47 => ⟨S120000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000, .f32⟩
  | 66 => ⟨S500000, .f32⟩
  | 67 => ⟨S500000, .f32⟩
  | 68 => ⟨S_, .f32⟩
  | 69 => ⟨S500000, .f32⟩
  | 70 => ⟨S500000, .f32⟩
  | 71 => ⟨S500000, .f32⟩
  | 72 => ⟨S500000, .f32⟩
  | 73 => ⟨S500000x1, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x128, .f32⟩
  | 83 => ⟨S500000x128, .f32⟩
  | 84 => ⟨S500000x128, .f32⟩
  | 85 => ⟨S_, .f32⟩
  | 86 => ⟨S120000x128, .f32⟩
  | 87 => ⟨S500000x1, .i32⟩
  | 88 => ⟨S120000x128, .f32⟩
  | 89 => ⟨S120000x128, .f32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S500000x256, .f32⟩
  | 109 => ⟨S500000x1, .f32⟩
  | 110 => ⟨S_, .f32⟩
  | 111 => ⟨S_, .f32⟩
  | 112 => ⟨S500000x1, .f32⟩
  | 113 => ⟨S500000x1, .i1⟩
  | 114 => ⟨S_, .f32⟩
  | 115 => ⟨S500000x1, .f32⟩
  | 116 => ⟨S500000x1, .f32⟩
  | 117 => ⟨S500000x1, .f32⟩
  | 118 => ⟨S500000, .f32⟩
  | 119 => ⟨S120000x500000, .i32⟩
  | 120 => ⟨S1x500000, .i32⟩
  | 121 => ⟨S120000x500000, .i32⟩
  | 122 => ⟨S120000x500000, .i1⟩
  | 123 => ⟨S1x500000, .f32⟩
  | 124 => ⟨S_, .f32⟩
  | 125 => ⟨S_, .f32⟩
  | 126 => ⟨S120000x500000, .f32⟩
  | 127 => ⟨S120000x500000, .f32⟩
  | _ => ⟨S128x128, .f32⟩

abbrev hbmTy0_3 (i : Nat) : BufTy := match i % 128 with
  | 0 => ⟨S120000x500000, .f32⟩
  | 1 => ⟨S_, .f32⟩
  | 2 => ⟨S120000, .f32⟩
  | 3 => ⟨S120000, .f32⟩
  | 4 => ⟨S_, .f32⟩
  | 5 => ⟨S120000, .f32⟩
  | 6 => ⟨S120000, .i1⟩
  | 7 => ⟨S_, .f32⟩
  | 8 => ⟨S_, .f32⟩
  | 9 => ⟨S120000, .f32⟩
  | 10 => ⟨S120000, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000, .f32⟩
  | 20 => ⟨S500000, .f32⟩
  | 21 => ⟨S500000, .f32⟩
  | 22 => ⟨S_, .f32⟩
  | 23 => ⟨S120000, .f32⟩
  | 24 => ⟨S500000x1, .i32⟩
  | 25 => ⟨S120000, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S500000, .f32⟩
  | 45 => ⟨S500000, .f32⟩
  | 46 => ⟨S_, .f32⟩
  | 47 => ⟨S500000, .f32⟩
  | 48 => ⟨S500000, .f32⟩
  | 49 => ⟨S500000, .f32⟩
  | 50 => ⟨S500000, .f32⟩
  | 51 => ⟨S500000x1, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x128, .f32⟩
  | 62 => ⟨S500000x128, .f32⟩
  | 63 => ⟨S_, .f32⟩
  | 64 => ⟨S120000x128, .f32⟩
  | 65 => ⟨S500000x1, .i32⟩
  | 66 => ⟨S120000x128, .f32⟩
  | 67 => ⟨S128x128, .f32⟩
  | 68 => ⟨S128x256, .f32⟩
  | 69 => ⟨S128x1, .f32⟩
  | 70 => ⟨S1x1, .f32⟩
  | 71 => ⟨S128x1, .f32⟩
  | 72 => ⟨S128x1, .f32⟩
  | 73 => ⟨S_, .f32⟩
  | 74 => ⟨S128, .f32⟩
  | 75 => ⟨S_, .f32⟩
  | 76 => ⟨S128, .f32⟩
  | 77 => ⟨S128, .f32⟩
  | 78 => ⟨S128x1, .f32⟩
  | 79 => ⟨S128x1, .f32⟩
  | 80 => ⟨S128x1, .f32⟩
  | 81 => ⟨S_, .f32⟩
  | 82 => ⟨S128, .f32⟩
  | 83 => ⟨S128x1, .f32⟩
  | 84 => ⟨S128x1, .f32⟩
  | 85 => ⟨S128x128, .f32⟩
  | 86 => ⟨S128x128, .f32⟩
  | 87 => ⟨S128x128, .f32⟩
  | 88 => ⟨S20000x128, .f32⟩
  | 89 => ⟨S20000x128, .f32⟩
  | 90 => ⟨S20000x256, .f32⟩
  | 91 => ⟨S20000x1, .f32⟩
  | 92 => ⟨S1x1, .f32⟩
  | 93 => ⟨S20000x1, .f32⟩
  | 94 => ⟨S20000x1, .f32⟩
  | 95 => ⟨S20000x256, .f32⟩
  | 96 => ⟨S20000x1, .f32⟩
  | 97 => ⟨S1x1, .f32⟩
  | 98 => ⟨S20000x1, .f32⟩
  | 99 => ⟨S20000x1, .f32⟩
  | 100 => ⟨S20000x2, .f32⟩
  | 101 => ⟨S_, .f32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x2, .f32⟩
  | 108 => ⟨S20000x2, .f32⟩
  | 109 => ⟨S20000x2, .f32⟩
  | 110 => ⟨S_, .f32⟩
  | 111 => ⟨S20000, .f32⟩
  | 112 => ⟨S20000x1, .f32⟩
  | 113 => ⟨S20000x2, .f32⟩
  | 114 => ⟨S20000x2, .f32⟩
  | 115 => ⟨S20000x1, .f32⟩
  | 116 => ⟨S20000x128, .f32⟩
  | 117 => ⟨S20000x128, .f32⟩
  | 118 => ⟨S20000x128, .f32⟩
  | 119 => ⟨S20000x1, .f32⟩
  | 120 => ⟨S20000x128, .f32⟩
  | 121 => ⟨S20000x128, .f32⟩
  | 122 => ⟨S20000x128, .f32⟩
  | 123 => ⟨S100000x128, .f32⟩
  | 124 => ⟨S100000x128, .f32⟩
  | _ => ⟨S128x128, .f32⟩

abbrev hbmTy (i : Nat) : BufTy := match i / 128 with
  | 0 => hbmTy0_0 i
  | 1 => hbmTy0_1 i
  | 2 => hbmTy0_2 i
  | 3 => hbmTy0_3 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_cst_5 : Ref sig .tc := ⟨.hbm, 69, rfl⟩
abbrev main_v28 : Ref sig .tc := ⟨.hbm, 70, rfl⟩
abbrev main_v29 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_v30 : Ref sig .tc := ⟨.hbm, 75, rfl⟩
abbrev main_c_7 : Ref sig .tc := ⟨.hbm, 76, rfl⟩
abbrev main_v31 : Ref sig .tc := ⟨.hbm, 77, rfl⟩
abbrev main_v32 : Ref sig .tc := ⟨.hbm, 78, rfl⟩
abbrev main_c_8 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_9 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_c_10 : Ref sig .tc := ⟨.hbm, 91, rfl⟩
abbrev main_v43 : Ref sig .tc := ⟨.hbm, 92, rfl⟩
abbrev main_v44 : Ref sig .tc := ⟨.hbm, 93, rfl⟩
abbrev main_c_11 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_12 : Ref sig .tc := ⟨.hbm, 100, rfl⟩
abbrev main_v50 : Ref sig .tc := ⟨.hbm, 101, rfl⟩
abbrev main_v51 : Ref sig .tc := ⟨.hbm, 102, rfl⟩
abbrev main_c_13 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_14 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_c_15 : Ref sig .tc := ⟨.hbm, 117, rfl⟩
abbrev main_v64 : Ref sig .tc := ⟨.hbm, 118, rfl⟩
abbrev main_v65 : Ref sig .tc := ⟨.hbm, 119, rfl⟩
abbrev main_c_16 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_17 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_c_18 : Ref sig .tc := ⟨.hbm, 133, rfl⟩
abbrev main_v77 : Ref sig .tc := ⟨.hbm, 134, rfl⟩
abbrev main_v78 : Ref sig .tc := ⟨.hbm, 135, rfl⟩
abbrev main_c_19 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_c_20 : Ref sig .tc := ⟨.hbm, 142, rfl⟩
abbrev main_v84 : Ref sig .tc := ⟨.hbm, 143, rfl⟩
abbrev main_v85 : Ref sig .tc := ⟨.hbm, 144, rfl⟩
abbrev main_c_21 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_22 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_23 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v100 : Ref sig .tc := ⟨.hbm, 171, rfl⟩
abbrev main_cst_24 : Ref sig .tc := ⟨.hbm, 172, rfl⟩
abbrev main_v101 : Ref sig .tc := ⟨.hbm, 173, rfl⟩
abbrev main_v102 : Ref sig .tc := ⟨.hbm, 174, rfl⟩
abbrev main_cst_25 : Ref sig .tc := ⟨.hbm, 175, rfl⟩
abbrev main_v103 : Ref sig .tc := ⟨.hbm, 176, rfl⟩
abbrev main_v104 : Ref sig .tc := ⟨.hbm, 177, rfl⟩
abbrev main_cst_26 : Ref sig .tc := ⟨.hbm, 178, rfl⟩
abbrev main_call5_v0 : Ref sig .tc := ⟨.hbm, 179, rfl⟩
abbrev main_call5_v1 : Ref sig .tc := ⟨.hbm, 180, rfl⟩
abbrev main_v105 : Ref sig .tc := ⟨.hbm, 181, rfl⟩
abbrev main_c_27 : Ref sig .tc := ⟨.hbm, 182, rfl⟩
abbrev main_v106 : Ref sig .tc := ⟨.hbm, 183, rfl⟩
abbrev main_v107 : Ref sig .tc := ⟨.hbm, 184, rfl⟩
abbrev main_c_28 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_29 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_c_30 : Ref sig .tc := ⟨.hbm, 197, rfl⟩
abbrev main_v118 : Ref sig .tc := ⟨.hbm, 198, rfl⟩
abbrev main_v119 : Ref sig .tc := ⟨.hbm, 199, rfl⟩
abbrev main_c_31 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_c_32 : Ref sig .tc := ⟨.hbm, 206, rfl⟩
abbrev main_v125 : Ref sig .tc := ⟨.hbm, 207, rfl⟩
abbrev main_v126 : Ref sig .tc := ⟨.hbm, 208, rfl⟩
abbrev main_c_33 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_cst_34 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_c_35 : Ref sig .tc := ⟨.hbm, 223, rfl⟩
abbrev main_v139 : Ref sig .tc := ⟨.hbm, 224, rfl⟩
abbrev main_v140 : Ref sig .tc := ⟨.hbm, 225, rfl⟩
abbrev main_c_36 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_37 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_c_38 : Ref sig .tc := ⟨.hbm, 240, rfl⟩
abbrev main_v153 : Ref sig .tc := ⟨.hbm, 241, rfl⟩
abbrev main_v154 : Ref sig .tc := ⟨.hbm, 242, rfl⟩
abbrev main_c_39 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_c_40 : Ref sig .tc := ⟨.hbm, 249, rfl⟩
abbrev main_v160 : Ref sig .tc := ⟨.hbm, 250, rfl⟩
abbrev main_v161 : Ref sig .tc := ⟨.hbm, 251, rfl⟩
abbrev main_c_41 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_cst_42 : Ref sig .tc := ⟨.hbm, 260, rfl⟩
abbrev main_call6_cst : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_43 : Ref sig .tc := ⟨.hbm, 274, rfl⟩
abbrev main_call7_v0 : Ref sig .tc := ⟨.hbm, 275, rfl⟩
abbrev main_call7_v1 : Ref sig .tc := ⟨.hbm, 276, rfl⟩
abbrev main_call7_v2 : Ref sig .tc := ⟨.hbm, 277, rfl⟩
abbrev main_v176 : Ref sig .tc := ⟨.hbm, 278, rfl⟩
abbrev main_cst_44 : Ref sig .tc := ⟨.hbm, 279, rfl⟩
abbrev main_v177 : Ref sig .tc := ⟨.hbm, 280, rfl⟩
abbrev main_v178 : Ref sig .tc := ⟨.hbm, 281, rfl⟩
abbrev main_cst_45 : Ref sig .tc := ⟨.hbm, 282, rfl⟩
abbrev main_v179 : Ref sig .tc := ⟨.hbm, 283, rfl⟩
abbrev main_v180 : Ref sig .tc := ⟨.hbm, 284, rfl⟩
abbrev main_cst_46 : Ref sig .tc := ⟨.hbm, 285, rfl⟩
abbrev main_call8_v0 : Ref sig .tc := ⟨.hbm, 286, rfl⟩
abbrev main_call8_v1 : Ref sig .tc := ⟨.hbm, 287, rfl⟩
abbrev main_v181 : Ref sig .tc := ⟨.hbm, 288, rfl⟩
abbrev main_c_47 : Ref sig .tc := ⟨.hbm, 289, rfl⟩
abbrev main_v182 : Ref sig .tc := ⟨.hbm, 290, rfl⟩
abbrev main_v183 : Ref sig .tc := ⟨.hbm, 291, rfl⟩
abbrev main_c_48 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_cst_49 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_c_50 : Ref sig .tc := ⟨.hbm, 304, rfl⟩
abbrev main_v194 : Ref sig .tc := ⟨.hbm, 305, rfl⟩
abbrev main_v195 : Ref sig .tc := ⟨.hbm, 306, rfl⟩
abbrev main_c_51 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_c_52 : Ref sig .tc := ⟨.hbm, 313, rfl⟩
abbrev main_v201 : Ref sig .tc := ⟨.hbm, 314, rfl⟩
abbrev main_v202 : Ref sig .tc := ⟨.hbm, 315, rfl⟩
abbrev main_c_53 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_cst_54 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_c_55 : Ref sig .tc := ⟨.hbm, 330, rfl⟩
abbrev main_v215 : Ref sig .tc := ⟨.hbm, 331, rfl⟩
abbrev main_v216 : Ref sig .tc := ⟨.hbm, 332, rfl⟩
abbrev main_c_56 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_cst_57 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_c_58 : Ref sig .tc := ⟨.hbm, 346, rfl⟩
abbrev main_v228 : Ref sig .tc := ⟨.hbm, 347, rfl⟩
abbrev main_v229 : Ref sig .tc := ⟨.hbm, 348, rfl⟩
abbrev main_c_59 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_c_60 : Ref sig .tc := ⟨.hbm, 355, rfl⟩
abbrev main_v235 : Ref sig .tc := ⟨.hbm, 356, rfl⟩
abbrev main_v236 : Ref sig .tc := ⟨.hbm, 357, rfl⟩
abbrev main_c_61 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_v243 : Ref sig .tc := ⟨.hbm, 365, rfl⟩
abbrev main_cst_62 : Ref sig .tc := ⟨.hbm, 366, rfl⟩
abbrev main_call9_cst : Ref sig .tc := ⟨.hbm, 367, rfl⟩
abbrev main_call9_v0 : Ref sig .tc := ⟨.hbm, 368, rfl⟩
abbrev main_call9_v1 : Ref sig .tc := ⟨.hbm, 369, rfl⟩
abbrev main_call9_v2 : Ref sig .tc := ⟨.hbm, 370, rfl⟩
abbrev main_call9_v3 : Ref sig .tc := ⟨.hbm, 371, rfl⟩
abbrev main_call9_v4 : Ref sig .tc := ⟨.hbm, 372, rfl⟩
abbrev main_v244 : Ref sig .tc := ⟨.hbm, 373, rfl⟩
abbrev main_v245 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_cst_63 : Ref sig .tc := ⟨.hbm, 380, rfl⟩
abbrev main_call10_v0 : Ref sig .tc := ⟨.hbm, 381, rfl⟩
abbrev main_call10_v1 : Ref sig .tc := ⟨.hbm, 382, rfl⟩
abbrev main_call10_v2 : Ref sig .tc := ⟨.hbm, 383, rfl⟩
abbrev main_v251 : Ref sig .tc := ⟨.hbm, 384, rfl⟩
abbrev main_cst_64 : Ref sig .tc := ⟨.hbm, 385, rfl⟩
abbrev main_v252 : Ref sig .tc := ⟨.hbm, 386, rfl⟩
abbrev main_v253 : Ref sig .tc := ⟨.hbm, 387, rfl⟩
abbrev main_cst_65 : Ref sig .tc := ⟨.hbm, 388, rfl⟩
abbrev main_v254 : Ref sig .tc := ⟨.hbm, 389, rfl⟩
abbrev main_v255 : Ref sig .tc := ⟨.hbm, 390, rfl⟩
abbrev main_cst_66 : Ref sig .tc := ⟨.hbm, 391, rfl⟩
abbrev main_call11_v0 : Ref sig .tc := ⟨.hbm, 392, rfl⟩
abbrev main_call11_v1 : Ref sig .tc := ⟨.hbm, 393, rfl⟩
abbrev main_v256 : Ref sig .tc := ⟨.hbm, 394, rfl⟩
abbrev main_c_67 : Ref sig .tc := ⟨.hbm, 395, rfl⟩
abbrev main_v257 : Ref sig .tc := ⟨.hbm, 396, rfl⟩
abbrev main_v258 : Ref sig .tc := ⟨.hbm, 397, rfl⟩
abbrev main_c_68 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_cst_69 : Ref sig .tc := ⟨.hbm, 406, rfl⟩
abbrev main_v266 : Ref sig .tc := ⟨.hbm, 407, rfl⟩
abbrev main_v267 : Ref sig .tc := ⟨.hbm, 408, rfl⟩
abbrev main_v268 : Ref sig .tc := ⟨.hbm, 409, rfl⟩
abbrev main_c_70 : Ref sig .tc := ⟨.hbm, 410, rfl⟩
abbrev main_v269 : Ref sig .tc := ⟨.hbm, 411, rfl⟩
abbrev main_v270 : Ref sig .tc := ⟨.hbm, 412, rfl⟩
abbrev main_c_71 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_c_72 : Ref sig .tc := ⟨.hbm, 419, rfl⟩
abbrev main_v276 : Ref sig .tc := ⟨.hbm, 420, rfl⟩
abbrev main_v277 : Ref sig .tc := ⟨.hbm, 421, rfl⟩
abbrev main_c_73 : Ref sig .tc := ⟨.hbm, 422, rfl⟩
abbrev main_v278 : Ref sig .tc := ⟨.hbm, 423, rfl⟩
abbrev main_v279 : Ref sig .tc := ⟨.hbm, 424, rfl⟩
abbrev main_v280 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_cst_74 : Ref sig .tc := ⟨.hbm, 430, rfl⟩
abbrev main_v285 : Ref sig .tc := ⟨.hbm, 431, rfl⟩
abbrev main_v286 : Ref sig .tc := ⟨.hbm, 432, rfl⟩
abbrev main_v287 : Ref sig .tc := ⟨.hbm, 433, rfl⟩
abbrev main_v288 : Ref sig .tc := ⟨.hbm, 434, rfl⟩
abbrev main_v289 : Ref sig .tc := ⟨.hbm, 435, rfl⟩
abbrev main_c_75 : Ref sig .tc := ⟨.hbm, 436, rfl⟩
abbrev main_v290 : Ref sig .tc := ⟨.hbm, 437, rfl⟩
abbrev main_v291 : Ref sig .tc := ⟨.hbm, 438, rfl⟩
abbrev main_c_76 : Ref sig .tc := ⟨.hbm, 439, rfl⟩
abbrev main_v292 : Ref sig .tc := ⟨.hbm, 440, rfl⟩
abbrev main_v293 : Ref sig .tc := ⟨.hbm, 441, rfl⟩
abbrev main_v294 : Ref sig .tc := ⟨.hbm, 442, rfl⟩
abbrev main_v295 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_cst_77 : Ref sig .tc := ⟨.hbm, 447, rfl⟩
abbrev main_v299 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_v303 : Ref sig .tc := ⟨.hbm, 452, rfl⟩
abbrev main_v304 : Ref sig .tc := ⟨.hbm, 453, rfl⟩
abbrev main_v305 : Ref sig .tc := ⟨.hbm, 454, rfl⟩
abbrev main_v306 : Ref sig .tc := ⟨.hbm, 455, rfl⟩
abbrev main_v307 : Ref sig .tc := ⟨.hbm, 456, rfl⟩
abbrev main_cst_78 : Ref sig .tc := ⟨.hbm, 457, rfl⟩
abbrev main_v308 : Ref sig .tc := ⟨.hbm, 458, rfl⟩
abbrev main_cst_79 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_v312 : Ref sig .tc := ⟨.hbm, 463, rfl⟩
abbrev main_v313 : Ref sig .tc := ⟨.hbm, 464, rfl⟩
abbrev main_cst_80 : Ref sig .tc := ⟨.hbm, 465, rfl⟩
abbrev main_v314 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_v318 : Ref sig .tc := ⟨.hbm, 470, rfl⟩
abbrev main_v319 : Ref sig .tc := ⟨.hbm, 471, rfl⟩
abbrev main_v320 : Ref sig .tc := ⟨.hbm, 472, rfl⟩
abbrev main_v321 : Ref sig .tc := ⟨.hbm, 473, rfl⟩
abbrev main_v322 : Ref sig .tc := ⟨.hbm, 474, rfl⟩
abbrev main_v323 : Ref sig .tc := ⟨.hbm, 475, rfl⟩
abbrev main_v324 : Ref sig .tc := ⟨.hbm, 476, rfl⟩
abbrev main_v325 : Ref sig .tc := ⟨.hbm, 477, rfl⟩
abbrev main_v326 : Ref sig .tc := ⟨.hbm, 478, rfl⟩
abbrev main_v327 : Ref sig .tc := ⟨.hbm, 479, rfl⟩
abbrev main_v328 : Ref sig .tc := ⟨.hbm, 480, rfl⟩
abbrev main_v329 : Ref sig .tc := ⟨.hbm, 481, rfl⟩
abbrev main_v330 : Ref sig .tc := ⟨.hbm, 482, rfl⟩
abbrev main_v331 : Ref sig .tc := ⟨.hbm, 483, rfl⟩
abbrev main_v332 : Ref sig .tc := ⟨.hbm, 484, rfl⟩
abbrev main_cst_81 : Ref sig .tc := ⟨.hbm, 485, rfl⟩
abbrev main_v333 : Ref sig .tc := ⟨.hbm, 486, rfl⟩
abbrev main_cst_82 : Ref sig .tc := ⟨.hbm, 487, rfl⟩
abbrev main_v334 : Ref sig .tc := ⟨.hbm, 488, rfl⟩
abbrev main_v335 : Ref sig .tc := ⟨.hbm, 489, rfl⟩
abbrev main_v336 : Ref sig .tc := ⟨.hbm, 490, rfl⟩
abbrev main_v337 : Ref sig .tc := ⟨.hbm, 491, rfl⟩
abbrev main_v338 : Ref sig .tc := ⟨.hbm, 492, rfl⟩
abbrev main_v339 : Ref sig .tc := ⟨.hbm, 493, rfl⟩
abbrev main_cst_83 : Ref sig .tc := ⟨.hbm, 494, rfl⟩
abbrev main_v340 : Ref sig .tc := ⟨.hbm, 495, rfl⟩
abbrev main_v341 : Ref sig .tc := ⟨.hbm, 496, rfl⟩
abbrev main_v342 : Ref sig .tc := ⟨.hbm, 497, rfl⟩
abbrev main_v343 : Ref sig .tc := ⟨.hbm, 498, rfl⟩
abbrev main_v344 : Ref sig .tc := ⟨.hbm, 499, rfl⟩
abbrev main_v345 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_v349 : Ref sig .tc := ⟨.hbm, 504, rfl⟩
abbrev main_v350 : Ref sig .tc := ⟨.hbm, 505, rfl⟩
abbrev main_v351 : Ref sig .tc := ⟨.hbm, 506, rfl⟩
abbrev main_v352 : Ref sig .tc := ⟨.hbm, 507, rfl⟩
abbrev main_v353 : Ref sig .tc := ⟨.hbm, 508, rfl⟩

abbrev nD : Nat := 1
abbrev τ : Topo := Topo.v7x

variable {F : FTy → Type} [FloatOps F]
-- ==== Proof.KernelRun.lean ====
/- The kernel's run: it terminates, and every array then holds what the chain of its stretches and products leaves there. -/
module

public import proofs.«01_k».proof.Proof.Gen.KernelIdeal.Frame

@[expose] public section

set_option maxRecDepth 16384

noncomputable section

namespace Cert.Edge.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

set_option backward.isDefEq.respectTransparency.types false in
/-- Every array's contents at the end of the run. -/
theorem run_contents (m : (ℓ : Loc nD τ sig) → Buf (Elt F) ℓ) (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun _ h _ => h)

end Cert.Edge.Ker

end
-- ==== Proof.RowReads.lean ====
/- Rows taken by an index array and rows added by one, read at an index: what `x[idx]` and `segment_sum` lower to on the
   host, for any extents, together with the few layout operations around them. -/
module

public import Idealize.ShloMosaic.PureOps.Ideal.Laws
public import Idealize.ShloMosaic.Lib.Pipeline.Value
public import Idealize.ShloMosaic.Lib.ValueIdx
public import Idealize.ShloMosaic.Lib.IdealHost
public import Idealize.ShloMosaic.Lib.MatmulPlain
public import Idealize.ShloMosaic.Lib.StackMember

@[expose] public section

noncomputable section

open scoped BigOperators

namespace Cert.Edge

open Idealize.ShloMosaic Idealize.ShloMosaic.ValueIdx

variable {α : Type} {N C E : ℕ}

/-! ## Rows taken -/

/-- The dimension numbers of `x[idx]` for `x : [N, C]` and `idx : [E]`, the indices as a column. -/
abbrev takeRow (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of `x[idx]` for `x : [N]` and `idx : [E]`, the indices as a column. -/
abbrev takeOne (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row that a start index takes: the word read signed, clamped into the operand. -/
def rowOf (hN : 0 < N) (w : BitVec 32) : Fin N := ⟨min w.toInt.toNat (N - 1), by omega⟩

/-- `x[idx]` of rows at `(e, k)` is `x` at the clamped row of `e`, column `k`. -/
theorem takeRow_apply (hN : 0 < N) (wf) (x : (⟨2, ![N, C]⟩ : Shape).Idx → α) (idx : IVec ⟨2, ![E, 1]⟩ 32) (e : Fin E) (k : Fin C) :
    Host.gather (takeRow N C E wf) x idx (ix2 e k) = x (ix2 (rowOf hN (idx (ix2 e 0))) k) := by
  unfold Host.gather
  congr 1
  funext a
  refine Fin.ext ?_
  show (takeRow N C E wf).start (ix2 e k) idx a + (takeRow N C E wf).batchCoord (ix2 e k) a
      + (takeRow N C E wf).offCoord (ix2 e k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRow N C E wf).startIndexMap from List.mem_singleton.mpr rfl)]
    have hsi : (takeRow N C E wf).siIdx (ix2 e k) ⟨List.idxOf (0 : Fin 2) (takeRow N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (by simp)]
    simp only [Nat.zero_add]
    unfold GatherDims.offCoord
    rw [dif_pos ((GatherDims.mem_sKept _ _).2 ⟨by simp, by simp⟩)]
    rfl

/-- `x[idx]` of single elements at `e` is `x` at the clamped position of `e`. -/
theorem takeOne_apply (hN : 0 < N) (wf) (x : (⟨1, ![N]⟩ : Shape).Idx → α) (idx : IVec ⟨2, ![E, 1]⟩ 32) (e : Fin E) :
    Host.gather (takeOne N E wf) x idx (ix1 e) = x (ix1 (rowOf hN (idx (ix2 e 0)))) := by
  unfold Host.gather
  congr 1
  funext a
  obtain rfl : a = 0 := Subsingleton.elim _ _
  refine Fin.ext ?_
  show (takeOne N E wf).start (ix1 e) idx 0 + (takeOne N E wf).batchCoord (ix1 e) 0 + (takeOne N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeOne N E wf).startIndexMap from List.mem_singleton.mpr rfl)]
  have hsi : (takeOne N E wf).siIdx (ix1 e) ⟨List.idxOf (0 : Fin 1) (takeOne N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Rows added -/

/-- The dimension numbers of a `segment_sum` of rows. -/
abbrev addRow (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a `segment_sum` of single elements. -/
abbrev addOne (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The edges whose index word, read signed, is `v`: those that add into row `v`. -/
def into (idx : Fin E → BitVec 32) (v : Fin N) : Finset (Fin E) := Finset.univ.filter fun e => (idx e).toInt = (v.val : ℤ)

theorem mem_into {idx : Fin E → BitVec 32} {v : Fin N} {e : Fin E} : e ∈ into idx v ↔ (idx e).toInt = (v.val : ℤ) := by
  simp [into]

/-- Update `(e, k')` of a row sum lands at `(v, k)` exactly when `e`'s word is `v` and the columns agree. -/
theorem addRow_lands (wf) (idx : IVec ⟨2, ![E, 1]⟩ 32) (e : Fin E) (k' : Fin C) (v : Fin N) (k : Fin C) :
    (addRow N C E wf).resultIdx? (ix2 e k') idx = some (ix2 v k) ↔ (idx (ix2 e 0)).toInt = (v.val : ℤ) ∧ k' = k := by
  have hs0 : (addRow N C E wf).start (ix2 e k') idx 0 = (idx (ix2 e 0)).toInt := by
    unfold ScatterDims.start
    rw [dif_pos (show (0 : Fin 2) ∈ (addRow N C E wf).scatterDimsToOperandDims from List.mem_singleton.mpr rfl)]
    congr 2
    funext b; refine Fin.ext ?_
    match b with
    | ⟨0, _⟩ => rfl
    | ⟨1, _⟩ => rfl
  have hs1 : (addRow N C E wf).start (ix2 e k') idx 1 = 0 := by
    unfold ScatterDims.start
    rw [dif_neg (by simp)]
  have hw0 : (addRow N C E wf).window (ix2 e k') 0 = 0 := rfl
  have hw1 : (addRow N C E wf).window (ix2 e k') 1 = k'.val := rfl
  unfold ScatterDims.resultIdx?
  split
  · rename_i h
    have h0 := h 0
    rw [hs0, hw0] at h0
    rw [Option.some.injEq]
    constructor
    · intro hh
      have a0 := congrArg Fin.val (congrFun hh 0)
      have a1 := congrArg Fin.val (congrFun hh 1)
      change ((addRow N C E wf).start (ix2 e k') idx 0 + ((addRow N C E wf).window (ix2 e k') 0 : ℕ)).toNat = v.val at a0
      change ((addRow N C E wf).start (ix2 e k') idx 1 + ((addRow N C E wf).window (ix2 e k') 1 : ℕ)).toNat = k.val at a1
      rw [hs0, hw0] at a0
      rw [hs1, hw1] at a1
      exact ⟨by omega, Fin.ext (by omega)⟩
    · rintro ⟨a0, rfl⟩
      refine Shape.idx_ext₂ ?_ ?_
      · change ((addRow N C E wf).start (ix2 e k') idx 0 + ((addRow N C E wf).window (ix2 e k') 0 : ℕ)).toNat = v.val
        rw [hs0, hw0]; omega
      · change ((addRow N C E wf).start (ix2 e k') idx 1 + ((addRow N C E wf).window (ix2 e k') 1 : ℕ)).toNat = k'.val
        rw [hs1, hw1]; omega
  · rename_i h
    constructor
    · intro hh; exact absurd hh (by simp)
    · rintro ⟨a0, rfl⟩
      refine absurd (fun a => ?_) h
      have h01 : a = 0 ∨ a = 1 := by
        match a with
        | ⟨0, _⟩ => exact Or.inl rfl
        | ⟨1, _⟩ => exact Or.inr rfl
      rcases h01 with rfl | rfl
      · rw [hs0, hw0]
        have := v.isLt
        change 0 ≤ _ ∧ _ < (N : ℤ)
        omega
      · rw [hs1, hw1]
        have := k'.isLt
        change 0 ≤ _ ∧ _ < (C : ℤ)
        omega

/-- Update `e` of a sum of single elements lands at `v` exactly when its word is `v`. -/
theorem addOne_lands (wf) (idx : IVec ⟨2, ![E, 1]⟩ 32) (e : Fin E) (v : Fin N) :
    (addOne N E wf).resultIdx? (ix1 e) idx = some (ix1 v) ↔ (idx (ix2 e 0)).toInt = (v.val : ℤ) := by
  have hs0 : (addOne N E wf).start (ix1 e) idx 0 = (idx (ix2 e 0)).toInt := by
    unfold ScatterDims.start
    rw [dif_pos (show (0 : Fin 1) ∈ (addOne N E wf).scatterDimsToOperandDims from List.mem_singleton.mpr rfl)]
    congr 2
    funext b; refine Fin.ext ?_
    match b with
    | ⟨0, _⟩ => rfl
    | ⟨1, _⟩ => rfl
  have hw0 : (addOne N E wf).window (ix1 e) 0 = 0 := rfl
  unfold ScatterDims.resultIdx?
  split
  · rename_i h
    have h0 := h 0
    rw [hs0, hw0] at h0
    rw [Option.some.injEq]
    constructor
    · intro hh
      have a0 := congrArg Fin.val (congrFun hh 0)
      change ((addOne N E wf).start (ix1 e) idx 0 + ((addOne N E wf).window (ix1 e) 0 : ℕ)).toNat = v.val at a0
      rw [hs0, hw0] at a0
      omega
    · intro a0
      funext a
      obtain rfl : a = 0 := Subsingleton.elim _ _
      refine Fin.ext ?_
      change ((addOne N E wf).start (ix1 e) idx 0 + ((addOne N E wf).window (ix1 e) 0 : ℕ)).toNat = v.val
      rw [hs0, hw0]; omega
  · rename_i h
    constructor
    · intro hh; exact absurd hh (by simp)
    · intro a0
      refine absurd (fun a => ?_) h
      obtain rfl : a = 0 := Subsingleton.elim _ _
      rw [hs0, hw0]
      have := v.isLt
      change 0 ≤ _ ∧ _ < (N : ℤ)
      omega

/-- A `segment_sum` of rows at `(v, k)`: what was there plus the updates of `v`'s edges at column `k`. -/
theorem addRow_apply (wf) (x : FVec Ideal ⟨2, ![N, C]⟩ .f32) (idx : IVec ⟨2, ![E, 1]⟩ 32) (upd : FVec Ideal ⟨2, ![E, C]⟩ .f32)
    (v : Fin N) (k : Fin C) :
    Host.scatterAdd (addRow N C E wf) x idx upd (ix2 v k)
      = x (ix2 v k) + ∑ e ∈ into (fun e => idx (ix2 e 0)) v, upd (ix2 e k) := by
  show x (ix2 v k) + ∑ j ∈ Finset.univ.filter (fun j => (addRow N C E wf).resultIdx? j idx = some (ix2 v k)), upd j = _
  congr 1
  refine (Finset.sum_bij (fun (e : Fin E) _ => (ix2 e k : (⟨2, ![E, C]⟩ : Shape).Idx)) ?_ ?_ ?_ ?_).symm
  · intro e he
    exact Finset.mem_filter.2 ⟨Finset.mem_univ _, (addRow_lands wf idx e k v k).2 ⟨mem_into.1 he, rfl⟩⟩
  · intro e _ e' _ h
    exact congrFun h 0
  · intro j hj
    obtain ⟨a, b, rfl⟩ : ∃ (a : Fin E) (b : Fin C), j = ix2 a b := ⟨j 0, j 1, eq_ix2 j⟩
    obtain ⟨h1, rfl⟩ := (addRow_lands wf idx a b v k).1 (Finset.mem_filter.1 hj).2
    exact ⟨a, mem_into.2 h1, rfl⟩
  · intro e _; rfl

/-- A `segment_sum` of single elements at `v`: what was there plus the updates of `v`'s edges. -/
theorem addOne_apply (wf) (x : FVec Ideal ⟨1, ![N]⟩ .f32) (idx : IVec ⟨2, ![E, 1]⟩ 32) (upd : FVec Ideal ⟨1, ![E]⟩ .f32) (v : Fin N) :
    Host.scatterAdd (addOne N E wf) x idx upd (ix1 v) = x (ix1 v) + ∑ e ∈ into (fun e => idx (ix2 e 0)) v, upd (ix1 e) := by
  show x (ix1 v) + ∑ j ∈ Finset.univ.filter (fun j => (addOne N E wf).resultIdx? j idx = some (ix1 v)), upd j = _
  congr 1
  refine (Finset.sum_bij (fun (e : Fin E) _ => (ix1 e : (⟨1, ![E]⟩ : Shape).Idx)) ?_ ?_ ?_ ?_).symm
  · intro e he
    exact Finset.mem_filter.2 ⟨Finset.mem_univ _, (addOne_lands wf idx e v).2 (mem_into.1 he)⟩
  · intro e _ e' _ h
    exact congrFun h 0
  · intro j hj
    obtain ⟨a, rfl⟩ : ∃ a : Fin E, j = ix1 a := ⟨j 0, eq_ix1 j⟩
    exact ⟨a, mem_into.2 ((addOne_lands wf idx a v).1 (Finset.mem_filter.1 hj).2), rfl⟩
  · intro e _; rfl

/-! ## Index words -/

/-- An index word wrapped as array indexing wraps a negative one: `n` added where it is below zero. -/
def wrapWord (n : ℕ) (w : BitVec 32) : BitVec 32 :=
  Scalar.select (IntOp.cmpi .slt w 0#32) (IntOp.addi w (BitVec.ofNat 32 n)) w

/-- A word that names a row of the operand is not wrapped, and takes that row. -/
theorem rowOf_wrapWord (hN : 0 < N) (n : ℕ) {w : BitVec 32} {v : Fin N} (h : w.toInt = (v.val : ℤ)) :
    rowOf hN (wrapWord n w) = v := by
  have hw : wrapWord n w = w := by
    unfold wrapWord
    have : IntOp.cmpi .slt w 0#32 = 0#1 := by
      have h0 : (0#32 : BitVec 32).toInt = 0 := rfl
      have hz : ¬ w.toInt < (0#32 : BitVec 32).toInt := by rw [h, h0]; omega
      show BitVec.ofBool (decide (w.toInt < (0#32 : BitVec 32).toInt)) = 0#1
      rw [decide_eq_false hz]; rfl
    rw [this]; rfl
  have := v.isLt
  rw [hw]
  refine Fin.ext ?_
  show min w.toInt.toNat (N - 1) = v.val
  rw [h]; omega

/-! ## Layout -/

/-- A flat array as a column. -/
theorem toColumn_apply (h) (x : (⟨1, ![E]⟩ : Shape).Idx → α) (e : Fin E) (u : Fin 1) :
    broadcastInDim ⟨2, ![E, 1]⟩ ![0] h x (ix2 e u) = x (ix1 e) := by
  refine broadcastInDim_apply _ h x _ _ fun a => ?_
  obtain rfl : a = 0 := Subsingleton.elim _ _
  show e.val = if E = 1 then 0 else e.val
  split
  · have := e.isLt; omega
  · rfl

/-- A column repeated across. -/
theorem acrossColumn_apply (h) (x : (⟨2, ![E, 1]⟩ : Shape).Idx → α) (e : Fin E) (k : Fin C) :
    broadcastInDim ⟨2, ![E, C]⟩ ![0, 1] h x (ix2 e k) = x (ix2 e 0) := by
  refine broadcastInDim_apply _ h x _ _ fun a => ?_
  match a with
  | ⟨0, _⟩ =>
    show e.val = if E = 1 then 0 else e.val
    split
    · have := e.isLt; omega
    · rfl
  | ⟨1, _⟩ => rfl

/-- A column as a flat array. -/
theorem ofColumn_apply (h) (x : (⟨2, ![E, 1]⟩ : Shape).Idx → α) (e : Fin E) :
    shapeCast ⟨1, ![E]⟩ x h (ix1 e) = x (ix2 e 0) := by
  refine shapeCast_apply x h _ _ ?_
  rw [Shape.rowMajor_val_one, Shape.rowMajor_val_two]
  show e.val * 1 + 0 = e.val
  omega

/-- A slice of columns from `o` on. -/
theorem columns_apply {D : ℕ} (o : ℕ) (h) (x : (⟨2, ![N, D]⟩ : Shape).Idx → α) (v : Fin N) (k : Fin C) (hk : o + k.val < D) :
    extractStridedSlice ⟨2, ![N, C]⟩ ![0, o] x h (ix2 v k) = x (ix2 v ⟨o + k.val, hk⟩) := by
  refine extractStridedSlice_apply _ x h _ _ fun a => ?_
  match a with
  | ⟨0, _⟩ => show v.val = 0 + v.val; omega
  | ⟨1, _⟩ => rfl

/-- The first columns of two arrays laid side by side are the left array's … -/
theorem beside_left {A B D : ℕ} (x : (⟨2, ![N, A]⟩ : Shape).Idx → α) (y : (⟨2, ![N, B]⟩ : Shape).Idx → α) (h) (v : Fin N) (k : Fin A)
    (hk : k.val < D) : concatenate (⟨2, ![N, D]⟩ : Shape) 1 [⟨⟨2, ![N, A]⟩, x⟩, ⟨⟨2, ![N, B]⟩, y⟩] h (ix2 v ⟨k.val, hk⟩) = x (ix2 v k) := by
  refine concatenate_apply_piece (t := ⟨2, ![N, D]⟩) 1 [⟨⟨2, ![N, A]⟩, x⟩, ⟨⟨2, ![N, B]⟩, y⟩] h _ 0 (by simp) ⟨2, ![N, A]⟩ x rfl rfl 0 rfl (ix2 v k) (fun b hb => ?_) ?_
  · match b with
    | ⟨0, _⟩ => rfl
    | ⟨1, _⟩ => exact absurd rfl hb
  · show 0 + k.val = k.val; omega

/-- … and the last the right array's. -/
theorem beside_right {A B D : ℕ} (x : (⟨2, ![N, A]⟩ : Shape).Idx → α) (y : (⟨2, ![N, B]⟩ : Shape).Idx → α) (h) (v : Fin N) (k : Fin B)
    (hk : A + k.val < D) :
    concatenate (⟨2, ![N, D]⟩ : Shape) 1 [⟨⟨2, ![N, A]⟩, x⟩, ⟨⟨2, ![N, B]⟩, y⟩] h (ix2 v ⟨A + k.val, hk⟩) = y (ix2 v k) := by
  refine concatenate_apply_piece (t := ⟨2, ![N, D]⟩) 1 [⟨⟨2, ![N, A]⟩, x⟩, ⟨⟨2, ![N, B]⟩, y⟩] h _ 1 (by simp) ⟨2, ![N, B]⟩ y rfl rfl A (by simp) (ix2 v k) (fun b hb => ?_) ?_
  · match b with
    | ⟨0, _⟩ => rfl
    | ⟨1, _⟩ => exact absurd rfl hb
  · rfl

/-- Of an array with two columns laid at its right, the first columns are the array's … -/
theorem beside3_first {A D : ℕ} (x : (⟨2, ![N, A]⟩ : Shape).Idx → α) (y z : (⟨2, ![N, 1]⟩ : Shape).Idx → α) (h) (v : Fin N) (k : Fin A)
    (hk : k.val < D) :
    concatenate (⟨2, ![N, D]⟩ : Shape) 1 [⟨⟨2, ![N, A]⟩, x⟩, ⟨⟨2, ![N, 1]⟩, y⟩, ⟨⟨2, ![N, 1]⟩, z⟩] h (ix2 v ⟨k.val, hk⟩) = x (ix2 v k) := by
  refine concatenate_apply_piece (t := ⟨2, ![N, D]⟩) 1
    [⟨⟨2, ![N, A]⟩, x⟩, ⟨⟨2, ![N, 1]⟩, y⟩, ⟨⟨2, ![N, 1]⟩, z⟩] h _ 0 (by simp) ⟨2, ![N, A]⟩ x rfl rfl 0 rfl (ix2 v k) (fun b hb => ?_) ?_
  · match b with
    | ⟨0, _⟩ => rfl
    | ⟨1, _⟩ => exact absurd rfl hb
  · show 0 + k.val = k.val; omega

/-- … the next the first column's … -/
theorem beside3_second {A D : ℕ} (x : (⟨2, ![N, A]⟩ : Shape).Idx → α) (y z : (⟨2, ![N, 1]⟩ : Shape).Idx → α) (h) (v : Fin N) (hk : A < D) :
    concatenate (⟨2, ![N, D]⟩ : Shape) 1 [⟨⟨2, ![N, A]⟩, x⟩, ⟨⟨2, ![N, 1]⟩, y⟩, ⟨⟨2, ![N, 1]⟩, z⟩] h (ix2 v ⟨A, hk⟩) = y (ix2 v 0) := by
  refine concatenate_apply_piece (t := ⟨2, ![N, D]⟩) 1
    [⟨⟨2, ![N, A]⟩, x⟩, ⟨⟨2, ![N, 1]⟩, y⟩, ⟨⟨2, ![N, 1]⟩, z⟩] h _ 1 (by simp) ⟨2, ![N, 1]⟩ y rfl rfl A (by simp) (ix2 v 0) (fun b hb => ?_) ?_
  · match b with
    | ⟨0, _⟩ => rfl
    | ⟨1, _⟩ => exact absurd rfl hb
  · rfl

/-- … and the last the second column's. -/
theorem beside3_third {A D : ℕ} (x : (⟨2, ![N, A]⟩ : Shape).Idx → α) (y z : (⟨2, ![N, 1]⟩ : Shape).Idx → α) (h) (v : Fin N) (hk : A + 1 < D) :
    concatenate (⟨2, ![N, D]⟩ : Shape) 1 [⟨⟨2, ![N, A]⟩, x⟩, ⟨⟨2, ![N, 1]⟩, y⟩, ⟨⟨2, ![N, 1]⟩, z⟩] h (ix2 v ⟨A + 1, hk⟩) = z (ix2 v 0) := by
  refine concatenate_apply_piece (t := ⟨2, ![N, D]⟩) 1
    [⟨⟨2, ![N, A]⟩, x⟩, ⟨⟨2, ![N, 1]⟩, y⟩, ⟨⟨2, ![N, 1]⟩, z⟩] h _ 2 (by simp) ⟨2, ![N, 1]⟩ z rfl rfl (A + 1) (by simp) (ix2 v 0) (fun b hb => ?_) ?_
  · match b with
    | ⟨0, _⟩ => rfl
    | ⟨1, _⟩ => exact absurd rfl hb
  · rfl

end Cert.Edge

end
-- ==== Proof.ShiftedSoftmax.lean ====
/- The softmax over one node's incoming edges, on the extended reals: subtracting a real number from every logit, with the
   guard of the denominator scaled by the exponential of its negation, and dividing each weight before the sum, gives the
   quotient of the two sums of the logits as they are. No edge has to be finite. -/
module

public import Idealize.ShloMosaic.PureOps.Ideal
public import Idealize.ShloMosaic.Lib.ValueIdx

@[expose] public section

noncomputable section

open scoped BigOperators

namespace Cert.Edge

open Idealize.ShloMosaic

/-- The exponential of an extended real is not negative. -/
theorem exp_nonneg (x : EReal) : 0 ≤ Ideal.exp x := by
  induction x with
  | bot => exact le_refl _
  | top => exact le_top
  | coe r => exact EReal.coe_nonneg.2 (Real.exp_pos r).le

/-- A real shift of the argument is a factor of the exponential. -/
theorem exp_sub_real (x : EReal) (m : ℝ) : Ideal.exp (x - (m : EReal)) = Ideal.exp x * ((Real.exp (-m) : ℝ) : EReal) := by
  induction x with
  | bot =>
    show Ideal.exp (⊥ - (m : EReal)) = (0 : EReal) * _
    rw [EReal.bot_sub, zero_mul]; rfl
  | top =>
    show Ideal.exp (⊤ - (m : EReal)) = (⊤ : EReal) * _
    rw [EReal.top_sub_coe, EReal.top_mul_coe_of_pos (Real.exp_pos _)]; rfl
  | coe r =>
    show Ideal.exp ((r : EReal) - (m : EReal)) = ((Real.exp r : ℝ) : EReal) * _
    rw [← EReal.coe_sub, ← EReal.coe_mul, ← Real.exp_add, ← sub_eq_add_neg]; rfl

/-- The exponential of the negation of a real. -/
theorem exp_neg_real (m : ℝ) : Ideal.exp (-(m : EReal)) = ((Real.exp (-m) : ℝ) : EReal) := by
  rw [← EReal.coe_neg]; rfl

/-- A factor that is neither negative nor `⊤` goes through a finite sum. -/
theorem sum_mul_of_nonneg {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 ht]

/-- THE LAW: the shifted softmax's weighted sum is the quotient of the unshifted sums. -/
theorem shifted_softmax {ι : Type} (s : Finset ι) (e z : ι → EReal) (m : ℝ) {ε : ℝ} (hε : 0 < ε) :
    ∑ i ∈ s, Ideal.div (Ideal.exp (e i - (m : EReal)))
        ((∑ j ∈ s, Ideal.exp (e j - (m : EReal))) + (ε : EReal) * Ideal.exp (-(m : EReal))) * z i
      = Ideal.div (∑ i ∈ s, Ideal.exp (e i) * z i) ((∑ j ∈ s, Ideal.exp (e j)) + (ε : EReal)) := by
  set c : EReal := ((Real.exp (-m) : ℝ) : EReal) with hc
  have cpos : 0 < c := EReal.coe_pos.2 (Real.exp_pos _)
  have ctop : c ≠ ⊤ := EReal.coe_ne_top _
  have cbot : c ≠ ⊥ := EReal.coe_ne_bot _
  have epos : (0 : EReal) < (ε : EReal) := EReal.coe_pos.2 hε
  set d : EReal := ∑ j ∈ s, Ideal.exp (e j) with hd
  have d0 : 0 ≤ d := Finset.sum_nonneg fun j _ => exp_nonneg _
  have D0 : 0 < d + (ε : EReal) := lt_of_lt_of_le epos (le_add_of_nonneg_left d0)
  have hsum : (∑ j ∈ s, Ideal.exp (e j - (m : EReal))) + (ε : EReal) * Ideal.exp (-(m : EReal)) = (d + (ε : EReal)) * c := by
    rw [exp_neg_real, ← hc, EReal.right_distrib_of_nonneg_of_ne_top cpos.le ctop, hd, ← sum_mul_of_nonneg s _ cpos.le ctop]
    simp only [exp_sub_real, ← hc]
  have Dc0 : (d + (ε : EReal)) * c ≠ 0 := mul_ne_zero D0.ne' cpos.ne'
  have Dinv0 : 0 ≤ (d + (ε : EReal))⁻¹ := EReal.inv_nonneg_of_nonneg D0.le
  have Dinvt : (d + (ε : EReal))⁻¹ ≠ ⊤ := by
    intro h
    rcases eq_or_ne (d + (ε : EReal)) ⊤ with ht | ht
    · rw [ht, EReal.inv_top] at h; exact absurd h EReal.zero_ne_top
    · obtain ⟨r, hr⟩ : ∃ r : ℝ, (r : EReal) = d + (ε : EReal) := ⟨_, EReal.coe_toReal ht (ne_of_gt (lt_trans EReal.bot_lt_zero D0))⟩
      rw [← hr, ← EReal.coe_inv] at h
      exact EReal.coe_ne_top _ h
  have hterm : ∀ i, Ideal.div (Ideal.exp (e i - (m : EReal))) ((d + (ε : EReal)) * c) * z i
      = Ideal.exp (e i) * z i * (d + (ε : EReal))⁻¹ := by
    intro i
    have hcc : c * c⁻¹ = 1 := by
      rw [hc, ← EReal.coe_inv, ← EReal.coe_mul, mul_inv_cancel₀ (Real.exp_pos _).ne']; rfl
    rw [Ideal.div, if_neg Dc0, exp_sub_real, ← hc, EReal.mul_inv]
    calc Ideal.exp (e i) * c * ((d + (ε : EReal))⁻¹ * c⁻¹) * z i
        = Ideal.exp (e i) * z i * (d + (ε : EReal))⁻¹ * (c * c⁻¹) := by ac_rfl
      _ = _ := by rw [hcc, mul_one]
  rw [hsum]
  simp only [hterm]
  rw [sum_mul_of_nonneg s _ Dinv0 Dinvt, Ideal.div, if_neg D0.ne']

/-- A value kept where its absolute value is below `⊤` and replaced by a real elsewhere is a real. -/
theorem select_finite (x : EReal) (r : ℝ) :
    ∃ m : ℝ, Scalar.select (Ideal.cmp .olt (max x (-x)) ⊤) x (r : EReal) = (m : EReal) := by
  induction x with
  | bot => exact ⟨r, by simp [Ideal.cmp, Scalar.select]⟩
  | top => exact ⟨r, by simp [Ideal.cmp, Scalar.select]⟩
  | coe a =>
    refine ⟨a, ?_⟩
    have h : max (a : EReal) (-(a : EReal)) < ⊤ := by
      rw [← EReal.coe_neg]; exact max_lt (EReal.coe_lt_top _) (EReal.coe_lt_top _)
    simp [Ideal.cmp, Scalar.select, h]

/-- The guard of the denominators, the word of `1e-16`, stands for a positive real. -/
theorem guard_pos : ∃ ε : ℝ, 0 < ε ∧ Ideal.ofBits .f32 0x24E69595#32 = (ε : EReal) := by
  refine ⟨_, ?_, by simp [Ideal.ofBits, Ideal.ieee]; rfl⟩
  positivity

end Cert.Edge

end
-- ==== Proof.Layer.lean ====
/- One attention layer over a graph of `n` nodes and `E` edges, in the three forms the claim compares: what it computes
   (`attend`), the host operations the kernel lowers it to (`fusedLayer`: one gather, one scatter, the quotient last) and
   the ones the reference does (`plainLayer`: softmax over a node's edges, shifted by the largest score). The two lowered
   forms are written operation for operation, over any extents, so each serves all four layers. -/
module

public import proofs.«01_k».proof.Proof.RowReads
public import proofs.«01_k».proof.Proof.ShiftedSoftmax

@[expose] public section

noncomputable section

open scoped BigOperators

namespace Cert.Edge

open Idealize.ShloMosaic Idealize.ShloMosaic.ValueIdx

variable {n E : ℕ}

/-! ## What a layer computes -/

/-- Leaky relu of one number, as the host's operations spell it. -/
def leak (x : EReal) : EReal :=
  Scalar.select (Ideal.cmp .oge x (Ideal.ofBits .f32 0x00000000#32)) x (Ideal.ofBits .f32 0x3C23D70A#32 * x)

/-- The node an edge's index word names: wrapped if negative, clamped into the graph. -/
def node (hn : 0 < n) (idx : IVec ⟨1, ![E]⟩ 32) (e : Fin E) : Fin n := rowOf hn (wrapWord n (idx (ix1 e)))

/-- An edge's score: its source's part and its destination's, through the leaky relu. -/
def score (hn : 0 < n) (p q : Fin n → EReal) (src dst : IVec ⟨1, ![E]⟩ 32) (e : Fin E) : EReal :=
  leak (p (node hn src e) + q (node hn dst e))

/-- The layer: for each node, the rows `z` of its incoming edges' sources, weighted by the exponential of the score and
    divided by the sum of those weights plus the guard. -/
def attend (hn : 0 < n) (z : FVec Ideal ⟨2, ![n, 128]⟩ .f32) (p q : Fin n → EReal) (src dst : IVec ⟨1, ![E]⟩ 32) :
    FVec Ideal ⟨2, ![n, 128]⟩ .f32 := fun i =>
  Ideal.div (∑ e ∈ into (N := n) (fun e => dst (ix1 e)) (i 0), Ideal.exp (score hn p q src dst e) * z (ix2 (node hn src e) (i 1)))
    ((∑ e ∈ into (N := n) (fun e => dst (ix1 e)) (i 0), Ideal.exp (score hn p q src dst e)) + Ideal.ofBits .f32 0x24E69595#32)

/-! ## Pieces both lowered forms have -/

/-- A scalar's shape. -/
abbrev S0 : Shape := ⟨0, ![]⟩

/-- The column of wrapped index words, as the host computes it. -/
def wrapped (n : ℕ) (h0 : S0.BroadcastsInDim ⟨1, ![E]⟩ ![]) (h1 : (⟨1, ![E]⟩ : Shape).BroadcastsInDim ⟨2, ![E, 1]⟩ ![0])
    (x : IVec ⟨1, ![E]⟩ 32) : IVec ⟨2, ![E, 1]⟩ 32 :=
  broadcastInDim ⟨2, ![E, 1]⟩ ![0] h1
    (select (cmpi .slt x (broadcastInDim ⟨1, ![E]⟩ ![] h0 (constantI S0 32 0#32)))
      (addi x (broadcastInDim ⟨1, ![E]⟩ ![] h0 (constantI S0 32 (BitVec.ofNat 32 n)))) x)

theorem wrapped_apply (h0 h1) (x : IVec ⟨1, ![E]⟩ 32) (e : Fin E) (u : Fin 1) : wrapped n h0 h1 x (ix2 e u) = wrapWord n (x (ix1 e)) := by
  unfold wrapped
  rw [toColumn_apply]
  rfl

/-- Leaky relu of an array, as the host computes it. -/
def leaky (s : Shape) (h0 : S0.BroadcastsInDim s ![]) (x : FVec Ideal s .f32) : FVec Ideal s .f32 :=
  select (cmpf .oge x (broadcastInDim s ![] h0 (constant S0 .f32 0x00000000#32))) x
    (mulf (broadcastInDim s ![] h0 (id (constant S0 .f32 0x3C23D70A#32))) x)

theorem leaky_apply (s : Shape) (h0) (x : FVec Ideal s .f32) (i : s.Idx) : leaky s h0 x i = leak (x i) := rfl

/-! ## The kernel's form -/

/-- The shapes' facts the kernel's operations carry. -/
structure FusedFacts (n E : ℕ) : Prop where
  one : S0.BroadcastsInDim ⟨2, ![n, 1]⟩ ![]
  col : (⟨1, ![n]⟩ : Shape).BroadcastsInDim ⟨2, ![n, 1]⟩ ![0]
  cat : Shape.Concatenates [⟨2, ![n, 128]⟩, ⟨2, ![n, 1]⟩, ⟨2, ![n, 1]⟩] ⟨2, ![n, 130]⟩ 1
  flat : S0.BroadcastsInDim ⟨1, ![E]⟩ ![]
  ecol : (⟨1, ![E]⟩ : Shape).BroadcastsInDim ⟨2, ![E, 1]⟩ ![0]
  take : GatherDims.WF ⟨2, ![n, 130]⟩ ⟨2, ![E, 1]⟩ ⟨2, ![E, 130]⟩ [1] [0] [] [0] [] 1 ![1, 130]
  last : (⟨2, ![E, 130]⟩ : Shape).Slices ![0, 129] ⟨2, ![E, 1]⟩
  uncol : (⟨2, ![E, 1]⟩ : Shape).ShapeCasts ⟨1, ![E]⟩
  take1 : GatherDims.WF ⟨1, ![n]⟩ ⟨2, ![E, 1]⟩ ⟨1, ![E]⟩ [] [0] [] [0] [] 1 ![1]
  init : (⟨2, ![E, 130]⟩ : Shape).Slices ![0, 0] ⟨2, ![E, 129]⟩
  across : (⟨2, ![E, 1]⟩ : Shape).BroadcastsInDim ⟨2, ![E, 129]⟩ ![0, 1]
  zero : S0.BroadcastsInDim ⟨2, ![n, 129]⟩ ![]
  add : ScatterDims.WF ⟨2, ![n, 129]⟩ ⟨2, ![E, 1]⟩ ⟨2, ![E, 129]⟩ [1] [0] [0] 1
  num : (⟨2, ![n, 129]⟩ : Shape).Slices ![0, 0] ⟨2, ![n, 128]⟩
  den : (⟨2, ![n, 129]⟩ : Shape).Slices ![0, 128] ⟨2, ![n, 1]⟩
  nacross : (⟨2, ![n, 1]⟩ : Shape).BroadcastsInDim ⟨2, ![n, 128]⟩ ![0, 1]

/-- Each edge's source row with a one and the source's score part behind it. -/
def fusedRows (h : FusedFacts n E) (z : FVec Ideal ⟨2, ![n, 128]⟩ .f32) (p : FVec Ideal ⟨1, ![n]⟩ .f32) (src : IVec ⟨1, ![E]⟩ 32) :
    FVec Ideal ⟨2, ![E, 130]⟩ .f32 :=
  Host.gather (takeRow n 130 E h.take)
    (concatenate ⟨2, ![n, 130]⟩ 1
      [⟨⟨2, ![n, 128]⟩, z⟩, ⟨⟨2, ![n, 1]⟩, broadcastInDim ⟨2, ![n, 1]⟩ ![] h.one (constant S0 .f32 0x3F800000#32)⟩,
        ⟨⟨2, ![n, 1]⟩, broadcastInDim ⟨2, ![n, 1]⟩ ![0] h.col p⟩] h.cat)
    (wrapped n h.flat h.ecol src)

/-- Each edge's score before the leaky relu. -/
def fusedScore (h : FusedFacts n E) (q : FVec Ideal ⟨1, ![n]⟩ .f32) (dst : IVec ⟨1, ![E]⟩ 32) (zc : FVec Ideal ⟨2, ![E, 130]⟩ .f32) :
    FVec Ideal ⟨1, ![E]⟩ .f32 :=
  addf (shapeCast ⟨1, ![E]⟩ (extractStridedSlice ⟨2, ![E, 1]⟩ ![0, 129] zc h.last) h.uncol)
    (Host.gather (takeOne n E h.take1) q (wrapped n h.flat h.ecol dst))

/-- The weighted rows and, in the last column, the weights, summed per destination. -/
def fusedSums (h : FusedFacts n E) (dst : IVec ⟨1, ![E]⟩ 32) (zc : FVec Ideal ⟨2, ![E, 130]⟩ .f32) (s : FVec Ideal ⟨1, ![E]⟩ .f32) :
    FVec Ideal ⟨2, ![n, 129]⟩ .f32 :=
  Host.scatterAdd (addRow n 129 E h.add) (broadcastInDim ⟨2, ![n, 129]⟩ ![] h.zero (constant S0 .f32 0x00000000#32))
    (broadcastInDim ⟨2, ![E, 1]⟩ ![0] h.ecol dst)
    (mulf (broadcastInDim ⟨2, ![E, 129]⟩ ![0, 1] h.across (broadcastInDim ⟨2, ![E, 1]⟩ ![0] h.ecol (Host.exp s)))
      (extractStridedSlice ⟨2, ![E, 129]⟩ ![0, 0] zc h.init))

/-- The quotient of the first columns by the last one plus the guard. -/
def fusedOut (h : FusedFacts n E) (t : FVec Ideal ⟨2, ![n, 129]⟩ .f32) : FVec Ideal ⟨2, ![n, 128]⟩ .f32 :=
  Host.divf (extractStridedSlice ⟨2, ![n, 128]⟩ ![0, 0] t h.num)
    (broadcastInDim ⟨2, ![n, 128]⟩ ![0, 1] h.nacross
      (addf (extractStridedSlice ⟨2, ![n, 1]⟩ ![0, 128] t h.den)
        (broadcastInDim ⟨2, ![n, 1]⟩ ![] h.one (constant S0 .f32 0x24E69595#32))))

/-- The kernel's layer. -/
def fusedLayer (h : FusedFacts n E) (z : FVec Ideal ⟨2, ![n, 128]⟩ .f32) (p q : FVec Ideal ⟨1, ![n]⟩ .f32) (src dst : IVec ⟨1, ![E]⟩ 32) :
    FVec Ideal ⟨2, ![n, 128]⟩ .f32 :=
  fusedOut h (fusedSums h dst (fusedRows h z p src)
    (leaky ⟨1, ![E]⟩ h.flat (fusedScore h q dst (fusedRows h z p src))))

section Fused

variable (hn : 0 < n) (h : FusedFacts n E) (z : FVec Ideal ⟨2, ![n, 128]⟩ .f32) (p q : FVec Ideal ⟨1, ![n]⟩ .f32) (src dst : IVec ⟨1, ![E]⟩ 32)

theorem fusedRows_first (e : Fin E) (k : Fin 128) (hk : k.val < 130) : fusedRows h z p src (ix2 e ⟨k.val, hk⟩) = z (ix2 (node hn src e) k) := by
  unfold fusedRows
  rw [takeRow_apply hn, wrapped_apply, beside3_first]
  rfl

include hn in
theorem fusedRows_one (e : Fin E) (hk : 128 < 130) : fusedRows h z p src (ix2 e ⟨128, hk⟩) = 1 := by
  unfold fusedRows
  rw [takeRow_apply hn, wrapped_apply, beside3_second]
  exact Ideal.ofBits_one_f32

theorem fusedRows_score (e : Fin E) (hk : 129 < 130) : fusedRows h z p src (ix2 e ⟨129, hk⟩) = p (ix1 (node hn src e)) := by
  unfold fusedRows
  rw [takeRow_apply hn, wrapped_apply, beside3_third, toColumn_apply]
  rfl

theorem fusedScore_apply (e : Fin E) :
    leaky ⟨1, ![E]⟩ h.flat (fusedScore h q dst (fusedRows h z p src)) (ix1 e)
      = score hn (fun v => p (ix1 v)) (fun v => q (ix1 v)) src dst e := by
  rw [leaky_apply]
  unfold fusedScore score
  rw [addf_apply, ofColumn_apply, takeOne_apply hn, wrapped_apply]
  rw [columns_apply 129 _ _ e (0 : Fin 1) (by decide)]
  rw [show (⟨129 + (0 : Fin 1).val, by decide⟩ : Fin 130) = ⟨129, by decide⟩ from rfl, fusedRows_score hn]
  rfl

/-- The sums at a node: over its edges, the exponential of the score times the edge's row. -/
theorem fusedSums_apply (zc : FVec Ideal ⟨2, ![E, 130]⟩ .f32) (s : FVec Ideal ⟨1, ![E]⟩ .f32) (v : Fin n) (k : Fin 129) :
    fusedSums h dst zc s (ix2 v k)
      = ∑ e ∈ into (N := n) (fun e => dst (ix1 e)) v, Ideal.exp (s (ix1 e)) * zc (ix2 e ⟨k.val, by have := k.isLt; omega⟩) := by
  unfold fusedSums
  rw [addRow_apply, broadcastInDim_scalar_apply]
  rw [show (constant S0 .f32 0x00000000#32 : FVec Ideal S0 .f32) ix0 = 0 from Ideal.ofBits_zero_f32, zero_add]
  refine Finset.sum_congr (congrArg (into · v) (funext fun e => toColumn_apply _ _ _ _)) fun e _ => ?_
  rw [mulf_apply, acrossColumn_apply, toColumn_apply, columns_apply 0 _ _ e k (by have := k.isLt; omega)]
  simp only [Nat.zero_add]
  rfl

theorem fusedLayer_eq : fusedLayer h z p q src dst = attend hn z (fun v => p (ix1 v)) (fun v => q (ix1 v)) src dst := by
  funext i
  obtain ⟨v, k, rfl⟩ : ∃ (v : Fin n) (k : Fin 128), i = ix2 v k := ⟨i 0, i 1, eq_ix2 i⟩
  unfold fusedLayer fusedOut
  rw [hostDivf_apply, acrossColumn_apply, addf_apply, columns_apply 0 _ _ v k (by have := k.isLt; omega),
    columns_apply 128 _ _ v (0 : Fin 1) (by decide), broadcastInDim_scalar_apply, fusedSums_apply, fusedSums_apply]
  simp only [fusedScore_apply hn]
  unfold attend
  refine congrArg₂ Ideal.div ?_ ?_
  · refine Finset.sum_congr rfl fun e _ => ?_
    have hk : k.val < 130 := by have := k.isLt; omega
    rw [show (⟨0 + k.val, by omega⟩ : Fin 130) = ⟨k.val, hk⟩ from Fin.ext (by simp), fusedRows_first hn]
    rfl
  · refine congrArg₂ (· + ·) (Finset.sum_congr rfl fun e _ => ?_) rfl
    rw [show (⟨128 + (0 : Fin 1).val, by decide⟩ : Fin 130) = ⟨128, by decide⟩ from rfl, fusedRows_one hn, mul_one]

end Fused

/-! ## The reference's form -/

/-- The shapes' facts the reference's operations carry. -/
structure PlainFacts (n E : ℕ) : Prop where
  flat : S0.BroadcastsInDim ⟨1, ![E]⟩ ![]
  ecol : (⟨1, ![E]⟩ : Shape).BroadcastsInDim ⟨2, ![E, 1]⟩ ![0]
  take : GatherDims.WF ⟨2, ![n, 128]⟩ ⟨2, ![E, 1]⟩ ⟨2, ![E, 128]⟩ [1] [0] [] [0] [] 1 ![1, 128]
  cat : Shape.Concatenates [⟨2, ![E, 128]⟩, ⟨2, ![E, 128]⟩] ⟨2, ![E, 256]⟩ 1
  colzero : S0.BroadcastsInDim ⟨2, ![E, 1]⟩ ![]
  uncol : (⟨2, ![E, 1]⟩ : Shape).ShapeCasts ⟨1, ![E]⟩
  row : (⟨1, ![E]⟩ : Shape).BroadcastsInDim ⟨2, ![1, E]⟩ ![1]
  down : (⟨2, ![1, E]⟩ : Shape).BroadcastsInDim ⟨2, ![n, E]⟩ ![0, 1]
  all : S0.BroadcastsInDim ⟨2, ![n, E]⟩ ![]
  red : (⟨2, ![n, E]⟩ : Shape).ReducesTo [1] ⟨1, ![n]⟩
  scalar : 0 < S0.numel
  nodes : S0.BroadcastsInDim ⟨1, ![n]⟩ ![]
  take1 : GatherDims.WF ⟨1, ![n]⟩ ⟨2, ![E, 1]⟩ ⟨1, ![E]⟩ [] [0] [] [0] [] 1 ![1]
  add1 : ScatterDims.WF ⟨1, ![n]⟩ ⟨2, ![E, 1]⟩ ⟨1, ![E]⟩ [] [0] [0] 1
  across : (⟨2, ![E, 1]⟩ : Shape).BroadcastsInDim ⟨2, ![E, 128]⟩ ![0, 1]
  zero : S0.BroadcastsInDim ⟨2, ![n, 128]⟩ ![]
  add : ScatterDims.WF ⟨2, ![n, 128]⟩ ⟨2, ![E, 1]⟩ ⟨2, ![E, 128]⟩ [1] [0] [0] 1

/-- Each edge's score: its source's row beside its destination's, times the attention vector, through the leaky relu. -/
def plainScore (h : PlainFacts n E) (z : FVec Ideal ⟨2, ![n, 128]⟩ .f32) (a : FVec Ideal ⟨2, ![256, 1]⟩ .f32) (src dst : IVec ⟨1, ![E]⟩ 32) :
    FVec Ideal ⟨1, ![E]⟩ .f32 :=
  shapeCast ⟨1, ![E]⟩
    (leaky ⟨2, ![E, 1]⟩ h.colzero
      (Host.dotGeneral (DotDims.plain E 256 1) none
        (concatenate ⟨2, ![E, 256]⟩ 1
          [⟨⟨2, ![E, 128]⟩, Host.gather (takeRow n 128 E h.take) z (wrapped n h.flat h.ecol src)⟩,
            ⟨⟨2, ![E, 128]⟩, Host.gather (takeRow n 128 E h.take) z (wrapped n h.flat h.ecol dst)⟩] h.cat) a)) h.uncol

/-- The largest score of each node's edges, or `⊥` for a node with none. -/
def largest (h : PlainFacts n E) (dst : IVec ⟨1, ![E]⟩ 32) (s : FVec Ideal ⟨1, ![E]⟩ .f32) : FVec Ideal ⟨1, ![n]⟩ .f32 :=
  Host.reduce FloatOps.maximumf
    (select (cmpi .eq (broadcastInDim ⟨2, ![n, E]⟩ ![0, 1] h.down (broadcastInDim ⟨2, ![1, E]⟩ ![1] h.row dst)) (iotaInDim ⟨2, ![n, E]⟩ 32 0))
      (broadcastInDim ⟨2, ![n, E]⟩ ![0, 1] h.down (broadcastInDim ⟨2, ![1, E]⟩ ![1] h.row s))
      (broadcastInDim ⟨2, ![n, E]⟩ ![] h.all (id (constant S0 .f32 0xFF800000#32))))
    (constant S0 .f32 0xFF800000#32) h.red h.scalar

/-- An array with zero in place of its infinities. -/
def finiteOr (h : PlainFacts n E) (x : FVec Ideal ⟨1, ![n]⟩ .f32) : FVec Ideal ⟨1, ![n]⟩ .f32 :=
  select (cmpf .olt (Host.absf x) (broadcastInDim ⟨1, ![n]⟩ ![] h.nodes (constant S0 .f32 0x7F800000#32))) x
    (broadcastInDim ⟨1, ![n]⟩ ![] h.nodes (id (constant S0 .f32 0x00000000#32)))

/-- Each edge's exponential of the score, shifted by its destination's `m`. -/
def shifted (h : PlainFacts n E) (dst : IVec ⟨1, ![E]⟩ 32) (s : FVec Ideal ⟨1, ![E]⟩ .f32) (m : FVec Ideal ⟨1, ![n]⟩ .f32) :
    FVec Ideal ⟨1, ![E]⟩ .f32 :=
  Host.exp (subf s (Host.gather (takeOne n E h.take1) m (wrapped n h.flat h.ecol dst)))

/-- The sum of those over each node's edges. -/
def plainSum (h : PlainFacts n E) (dst : IVec ⟨1, ![E]⟩ 32) (x : FVec Ideal ⟨1, ![E]⟩ .f32) : FVec Ideal ⟨1, ![n]⟩ .f32 :=
  Host.scatterAdd (addOne n E h.add1) (broadcastInDim ⟨1, ![n]⟩ ![] h.nodes (constant S0 .f32 0x00000000#32))
    (broadcastInDim ⟨2, ![E, 1]⟩ ![0] h.ecol dst) x

/-- Each edge's weight: its exponential over its destination's sum plus the guard. -/
def plainWeight (h : PlainFacts n E) (dst : IVec ⟨1, ![E]⟩ 32) (x : FVec Ideal ⟨1, ![E]⟩ .f32) (m : FVec Ideal ⟨1, ![n]⟩ .f32) :
    FVec Ideal ⟨1, ![E]⟩ .f32 :=
  Host.divf x
    (addf (Host.gather (takeOne n E h.take1) (plainSum h dst x) (wrapped n h.flat h.ecol dst))
      (mulf (broadcastInDim ⟨1, ![E]⟩ ![] h.flat (constant S0 .f32 0x24E69595#32))
        (Host.exp (Host.negf (Host.gather (takeOne n E h.take1) m (wrapped n h.flat h.ecol dst))))))

/-- The weighted source rows summed per destination. -/
def plainOut (h : PlainFacts n E) (z : FVec Ideal ⟨2, ![n, 128]⟩ .f32) (src dst : IVec ⟨1, ![E]⟩ 32) (w : FVec Ideal ⟨1, ![E]⟩ .f32) :
    FVec Ideal ⟨2, ![n, 128]⟩ .f32 :=
  Host.scatterAdd (addRow n 128 E h.add) (broadcastInDim ⟨2, ![n, 128]⟩ ![] h.zero (constant S0 .f32 0x00000000#32))
    (broadcastInDim ⟨2, ![E, 1]⟩ ![0] h.ecol dst)
    (mulf (broadcastInDim ⟨2, ![E, 128]⟩ ![0, 1] h.across (broadcastInDim ⟨2, ![E, 1]⟩ ![0] h.ecol w))
      (Host.gather (takeRow n 128 E h.take) z (wrapped n h.flat h.ecol src)))

/-- The layer given the scores and the per-node shift. -/
def shiftedLayer (h : PlainFacts n E) (z : FVec Ideal ⟨2, ![n, 128]⟩ .f32) (src dst : IVec ⟨1, ![E]⟩ 32) (s : FVec Ideal ⟨1, ![E]⟩ .f32)
    (m : FVec Ideal ⟨1, ![n]⟩ .f32) : FVec Ideal ⟨2, ![n, 128]⟩ .f32 :=
  plainOut h z src dst (plainWeight h dst (shifted h dst s m) m)

/-- The reference's layer. -/
def plainLayer (h : PlainFacts n E) (z : FVec Ideal ⟨2, ![n, 128]⟩ .f32) (a : FVec Ideal ⟨2, ![256, 1]⟩ .f32) (src dst : IVec ⟨1, ![E]⟩ 32) :
    FVec Ideal ⟨2, ![n, 128]⟩ .f32 :=
  shiftedLayer h z src dst (plainScore h z a src dst) (finiteOr h (largest h dst (plainScore h z a src dst)))

/-- A node's part of a score: its row times one half of the attention vector, from entry `o` on. -/
def half (z : FVec Ideal ⟨2, ![n, 128]⟩ .f32) (a : FVec Ideal ⟨2, ![256, 1]⟩ .f32) (o : ℕ) (ho : o + 128 ≤ 256) (v : Fin n) : EReal :=
  ∑ j : Fin 128, z (ix2 v j) * a (ix2 ⟨o + j.val, by have := j.isLt; omega⟩ 0)

section Plain

variable (hn : 0 < n) (h : PlainFacts n E) (z : FVec Ideal ⟨2, ![n, 128]⟩ .f32) (a : FVec Ideal ⟨2, ![256, 1]⟩ .f32) (src dst : IVec ⟨1, ![E]⟩ 32)

theorem plainScore_apply (e : Fin E) :
    plainScore h z a src dst (ix1 e) = score hn (half z a 0 (by decide)) (half z a 128 (by decide)) src dst e := by
  unfold plainScore score
  rw [ofColumn_apply, leaky_apply, StackMember.dotGeneral_plain_apply]
  refine congrArg leak ?_
  rw [Fin.sum_univ_add (a := 128) (b := 128)]
  refine congrArg₂ (· + ·) (Finset.sum_congr rfl fun j _ => ?_) (Finset.sum_congr rfl fun j _ => ?_)
  · have hj : j.val < 256 := by have := j.isLt; omega
    rw [show (Fin.castAdd 128 j : Fin 256) = ⟨j.val, hj⟩ from rfl, beside_left, takeRow_apply hn, wrapped_apply]
    rw [show (⟨0 + j.val, by omega⟩ : Fin 256) = ⟨j.val, hj⟩ from Fin.ext (by simp)]
    rfl
  · have hj : 128 + j.val < 256 := by have := j.isLt; omega
    rw [show (Fin.natAdd 128 j : Fin 256) = ⟨128 + j.val, hj⟩ from rfl, beside_right, takeRow_apply hn, wrapped_apply]
    rfl

/-- What replaces the infinities of an array is an array of real numbers. -/
theorem finiteOr_real (x : FVec Ideal ⟨1, ![n]⟩ .f32) (v : Fin n) : ∃ m : ℝ, finiteOr h x (ix1 v) = (m : EReal) := by
  have hi : Ideal.ofBits .f32 0x7F800000#32 = ⊤ := by simp [Ideal.ofBits, Ideal.ieee]
  obtain ⟨m, hm⟩ := select_finite (x (ix1 v)) 0
  refine ⟨m, ?_⟩
  rw [← hm, ← hi, EReal.coe_zero, ← Ideal.ofBits_zero_f32]
  rfl

theorem node_dst {e : Fin E} {v : Fin n} (he : e ∈ into (N := n) (fun e => dst (ix1 e)) v) : node hn dst e = v :=
  rowOf_wrapWord hn n (mem_into.1 he)

/-- The shift does not change the layer. -/
theorem shiftedLayer_eq (s : FVec Ideal ⟨1, ![E]⟩ .f32) (m : FVec Ideal ⟨1, ![n]⟩ .f32) (hm : ∀ v, ∃ r : ℝ, m (ix1 v) = (r : EReal)) (v : Fin n)
    (k : Fin 128) :
    shiftedLayer h z src dst s m (ix2 v k)
      = Ideal.div (∑ e ∈ into (N := n) (fun e => dst (ix1 e)) v, Ideal.exp (s (ix1 e)) * z (ix2 (node hn src e) k))
          ((∑ e ∈ into (N := n) (fun e => dst (ix1 e)) v, Ideal.exp (s (ix1 e))) + Ideal.ofBits .f32 0x24E69595#32) := by
  have hz : ∀ (i : S0.Idx), (constant S0 .f32 0x00000000#32 : FVec Ideal S0 .f32) i = 0 := fun _ => Ideal.ofBits_zero_f32
  have hd : into (N := n) (fun e => broadcastInDim ⟨2, ![E, 1]⟩ ![0] h.ecol dst (ix2 e 0)) = into (fun e => dst (ix1 e)) :=
    congrArg into (funext fun e => toColumn_apply _ _ _ _)
  obtain ⟨r, hr⟩ := hm v
  obtain ⟨ε, hε, hε'⟩ := guard_pos
  rw [hε', ← shifted_softmax _ _ _ r hε]
  unfold shiftedLayer plainOut
  rw [addRow_apply, broadcastInDim_scalar_apply, hz, zero_add, hd]
  have hx : ∀ e ∈ into (N := n) (fun e => dst (ix1 e)) v, shifted h dst s m (ix1 e) = Ideal.exp (s (ix1 e) - (r : EReal)) := by
    intro e he
    unfold shifted
    show Ideal.exp (subf s _ (ix1 e)) = _
    rw [subf_apply, takeOne_apply hn, wrapped_apply]
    change Ideal.exp (s (ix1 e) - m (ix1 (node hn dst e))) = _
    rw [node_dst hn dst he, hr]
  refine Finset.sum_congr rfl fun e he => ?_
  rw [mulf_apply, acrossColumn_apply, toColumn_apply, takeRow_apply hn, wrapped_apply]
  refine congrArg₂ (· * ·) ?_ rfl
  unfold plainWeight
  rw [hostDivf_apply, hx e he, addf_apply, mulf_apply, broadcastInDim_scalar_apply, takeOne_apply hn, wrapped_apply]
  refine congrArg (Ideal.div _) (congrArg₂ (· + ·) ?_ (congrArg₂ (· * ·) hε' ?_))
  · change plainSum h dst _ (ix1 (node hn dst e)) = _
    rw [node_dst hn dst he]
    unfold plainSum
    rw [addOne_apply, broadcastInDim_scalar_apply, hz, zero_add, hd]
    exact Finset.sum_congr rfl hx
  · show Ideal.exp (-(Host.gather _ m _ (ix1 e))) = _
    rw [takeOne_apply hn, wrapped_apply]
    change Ideal.exp (-(m (ix1 (node hn dst e)))) = _
    rw [node_dst hn dst he, hr]

theorem plainLayer_eq :
    plainLayer h z a src dst = attend hn z (half z a 0 (by decide)) (half z a 128 (by decide)) src dst := by
  funext i
  obtain ⟨v, k, rfl⟩ : ∃ (v : Fin n) (k : Fin 128), i = ix2 v k := ⟨i 0, i 1, eq_ix2 i⟩
  unfold plainLayer
  rw [shiftedLayer_eq hn h z src dst _ _ (finiteOr_real h _) v k]
  simp only [plainScore_apply hn]
  rfl

end Plain

end Cert.Edge

end
-- ==== Proof.Products.lean ====
/- The kernel's two products: what the four arrays of each hold when it has gone through every block of rows. -/
module

public import proofs.«01_k».proof.Proof.Layer
public import proofs.«01_k».proof.Proof.Gen.KernelIdeal.Frame
public import Idealize.ShloMosaic.Lib.Pipeline.ValueKit

@[expose] public section

noncomputable section

namespace Cert.Edge.Ker

open Idealize.ShloMosaic Idealize.ShloMosaic.TcCoe Cert.KernelIdeal Cert.KernelIdeal.Gen
open Idealize.SL Idealize.SL.Sem Idealize.ShloMosaic.Pipeline

/-- Rows times a square matrix. -/
def times {M : ℕ} (x : FVec Ideal ⟨2, ![M, 128]⟩ .f32) (w : FVec Ideal ⟨2, ![128, 128]⟩ .f32) : FVec Ideal ⟨2, ![M, 128]⟩ .f32 :=
  fun i => ∑ k : Fin 128, x (ValueIdx.ix2 (i 0) k) * w (ValueIdx.ix2 k (i 1))

/-- A row of the product takes one row of the left factor. -/
theorem times_congr {M N : ℕ} {x : FVec Ideal ⟨2, ![M, 128]⟩ .f32} {X : FVec Ideal ⟨2, ![N, 128]⟩ .f32} {w W : FVec Ideal ⟨2, ![128, 128]⟩ .f32}
    {y : (⟨2, ![M, 128]⟩ : Shape).Idx} {i : (⟨2, ![N, 128]⟩ : Shape).Idx}
    (hx : ∀ k, x (ValueIdx.ix2 (y 0) k) = X (ValueIdx.ix2 (i 0) k)) (hw : w = W) (hj : y 1 = i 1) :
    times x w y = times X W i := by
  subst hw
  refine Finset.sum_congr rfl fun k _ => ?_
  rw [hx k, hj]

/-- The same for two products in turn. -/
theorem times_times_congr {M N : ℕ} {x : FVec Ideal ⟨2, ![M, 128]⟩ .f32} {X : FVec Ideal ⟨2, ![N, 128]⟩ .f32}
    {w W a A : FVec Ideal ⟨2, ![128, 128]⟩ .f32} {y : (⟨2, ![M, 128]⟩ : Shape).Idx} {i : (⟨2, ![N, 128]⟩ : Shape).Idx}
    (hx : ∀ k, x (ValueIdx.ix2 (y 0) k) = X (ValueIdx.ix2 (i 0) k)) (hw : w = W) (ha : a = A) (hj : y 1 = i 1) :
    times (times x w) a y = times (times X W) A i :=
  times_congr (fun _ => times_congr hx hw rfl) ha hj

/-! ## The body's products -/

/-- The body's product onto zero. -/
theorem matmul_times (x : FVec Ideal S2048x128 .f32) (w : FVec Ideal S128x128 .f32) :
    matmul dot_S2048x128_S128x128_S2048x128_1_0_0_1_n_n none x w (constant S2048x128 .f32 0x00000000#32) = times x w := by
  funext i
  obtain ⟨r, j, rfl⟩ : ∃ (r : Fin 2048) (j : Fin 128), i = ValueIdx.ix2 r j := ⟨i 0, i 1, ValueIdx.eq_ix2 i⟩
  refine (Ideal.matmul_plain_apply _ _ _ _ r j).trans ?_
  rw [show (constant S2048x128 .f32 0x00000000#32 : FVec Ideal S2048x128 .f32) (ValueIdx.ix2 r j) = 0 from Ideal.ofBits_zero_f32, zero_add]
  rfl

/-- A block of rows times one matrix, as the body computes it. -/
theorem once (x : FVec Ideal S2048x128 .f32) (w : FVec Ideal S128x128 .f32) (h) :
    matmul dot_S2048x128_S128x128_S2048x128_1_0_0_1_n_n none (shapeCast S2048x128 x h) w (constant S2048x128 .f32 0x00000000#32) = times x w := by
  rw [shapeCast_self, matmul_times]

/-- … and the product times a second. -/
theorem twice (x : FVec Ideal S2048x128 .f32) (w a : FVec Ideal S128x128 .f32) (h h') :
    matmul dot_S2048x128_S128x128_S2048x128_1_0_0_1_n_n none
        (matmul dot_S2048x128_S128x128_S2048x128_1_0_0_1_n_n none (shapeCast S2048x128 x h) w (constant S2048x128 .f32 0x00000000#32))
        (shapeCast S128x128 a h') (constant S2048x128 .f32 0x00000000#32) = times (times x w) a := by
  rw [once, shapeCast_self, matmul_times]

/-! ## The first product, over exercises and concepts -/

section First

variable (V : (c : Dev nD) → (b : Ref sig .tc) → Buf (Elt Ideal) ((c : Thread nD τ).loc b)) (c : Dev nD)

theorem pay0_2 (x : FVec Ideal S2048x128 .f32) (w : FVec Ideal S128x128 .f32) : k0_pay2 (F := Ideal) x w = times x w := once _ _ _
theorem pay0_3 (x : FVec Ideal S2048x128 .f32) (w : FVec Ideal S128x128 .f32) : k0_pay3 (F := Ideal) x w = times x w := once _ _ _
theorem pay0_4 (x : FVec Ideal S2048x128 .f32) (w a : FVec Ideal S128x128 .f32) : k0_pay4 (F := Ideal) x w a = times (times x w) a := twice _ _ _ _ _
theorem pay0_5 (x : FVec Ideal S2048x128 .f32) (w a : FVec Ideal S128x128 .f32) : k0_pay5 (F := Ideal) x w a = times (times x w) a := twice _ _ _ _ _

theorem place0_0 : ∀ t : Fin cfg0.N, win0_0.index t = ![(grid0.coords t 0).val, 0] := (by decide +kernel : ∀ t : Fin grid0.N, _)
theorem place0_5 : ∀ t : Fin cfg0.N, win0_5.index t = ![(grid0.coords t 0).val, 0] := (by decide +kernel : ∀ t : Fin grid0.N, _)
theorem place0_6 : ∀ t : Fin cfg0.N, win0_6.index t = ![(grid0.coords t 0).val, 0] := (by decide +kernel : ∀ t : Fin grid0.N, _)
theorem place0_7 : ∀ t : Fin cfg0.N, win0_7.index t = ![(grid0.coords t 0).val, 0] := (by decide +kernel : ∀ t : Fin grid0.N, _)
theorem place0_8 : ∀ t : Fin cfg0.N, win0_8.index t = ![(grid0.coords t 0).val, 0] := (by decide +kernel : ∀ t : Fin grid0.N, _)
theorem place0_1 : ∀ t : Fin cfg0.N, win0_1.index t = ![0, 0] := (by decide +kernel : ∀ t : Fin grid0.N, _)
theorem place0_2 : ∀ t : Fin cfg0.N, win0_2.index t = ![0, 0] := (by decide +kernel : ∀ t : Fin grid0.N, _)
theorem place0_3 : ∀ t : Fin cfg0.N, win0_3.index t = ![0, 0] := (by decide +kernel : ∀ t : Fin grid0.N, _)
theorem place0_4 : ∀ t : Fin cfg0.N, win0_4.index t = ![0, 0] := (by decide +kernel : ∀ t : Fin grid0.N, _)

/-- Row `r` of the block at point `t` is row `2048 t + r` of the array. -/
theorem row0 (t : Fin cfg0.N) (y : S2048x128.Idx) (i : S20480x128.Idx) (h : (i 0).val = (grid0.coords t 0).val * 2048 + (y 0).val) (k : Fin 128) :
    (iblk0 V c 0 t : FVec Ideal S2048x128 .f32) (ValueIdx.ix2 (y 0) k) = (V c main_v2 : FVec Ideal S20480x128 .f32) (ValueIdx.ix2 (i 0) k) := by
  blk_simp [iblk0]
  refine congrArg _ ?_
  blk_ext [place0_0]
  exact h.symm

/-- The other blocks are whole arrays. -/
theorem block0_1 (t : Fin cfg0.N) : iblk0 V c 1 t = V c main_arg3 := by
  funext y
  blk_simp [iblk0]
  refine congrArg _ ?_
  blk_ext [place0_1]

theorem block0_2 (t : Fin cfg0.N) : iblk0 V c 2 t = V c main_arg5 := by
  funext y
  blk_simp [iblk0]
  refine congrArg _ ?_
  blk_ext [place0_2]

theorem block0_3 (t : Fin cfg0.N) : iblk0 V c 3 t = V c main_v6 := by
  funext y
  blk_simp [iblk0]
  refine congrArg _ ?_
  blk_ext [place0_3]

theorem block0_4 (t : Fin cfg0.N) : iblk0 V c 4 t = V c main_v10 := by
  funext y
  blk_simp [iblk0]
  refine congrArg _ ?_
  blk_ext [place0_4]

/-- What the grid leaves in one of its results. -/
theorem arr0_5 : (dat0 V c).arrAt 5 cfg0.N = times (M := 20480) (V c main_v2) (V c main_arg3) := by
  refine (dat0 V c).arrAt_eq_of_covers 5 _ (by decide +kernel) fun t hf y => ?_
  blk_simp
  rw [after0_5]
  frame_out
  rw [pay0_2]
  exact times_congr (fun k => row0 V c t y _ (by blk_simp [place0_5]) k) (block0_1 V c t) (Fin.ext (by blk_simp [place0_5]))

/-- What the grid leaves in one of its results. -/
theorem arr0_6 : (dat0 V c).arrAt 6 cfg0.N = times (M := 20480) (V c main_v2) (V c main_arg5) := by
  refine (dat0 V c).arrAt_eq_of_covers 6 _ (by decide +kernel) fun t hf y => ?_
  blk_simp
  rw [after0_6]
  frame_out
  rw [pay0_3]
  exact times_congr (fun k => row0 V c t y _ (by blk_simp [place0_6]) k) (block0_2 V c t) (Fin.ext (by blk_simp [place0_6]))

/-- What the grid leaves in one of its results. -/
theorem arr0_7 : (dat0 V c).arrAt 7 cfg0.N = times (times (M := 20480) (V c main_v2) (V c main_arg3)) (V c main_v6) := by
  refine (dat0 V c).arrAt_eq_of_covers 7 _ (by decide +kernel) fun t hf y => ?_
  blk_simp
  rw [after0_7]
  frame_out
  rw [pay0_4]
  exact times_times_congr (fun k => row0 V c t y _ (by blk_simp [place0_7]) k) (block0_1 V c t) (block0_3 V c t) (Fin.ext (by blk_simp [place0_7]))

/-- What the grid leaves in one of its results. -/
theorem arr0_8 : (dat0 V c).arrAt 8 cfg0.N = times (times (M := 20480) (V c main_v2) (V c main_arg5)) (V c main_v10) := by
  refine (dat0 V c).arrAt_eq_of_covers 8 _ (by decide +kernel) fun t hf y => ?_
  blk_simp
  rw [after0_8]
  frame_out
  rw [pay0_5]
  exact times_times_congr (fun k => row0 V c t y _ (by blk_simp [place0_8]) k) (block0_2 V c t) (block0_4 V c t) (Fin.ext (by blk_simp [place0_8]))

end First

/-! ## The second product, over exercises and students -/

section Second

variable (V : (c : Dev nD) → (b : Ref sig .tc) → Buf (Elt Ideal) ((c : Thread nD τ).loc b)) (c : Dev nD)

theorem pay1_2 (x : FVec Ideal S2048x128 .f32) (w : FVec Ideal S128x128 .f32) : k1_pay2 (F := Ideal) x w = times x w := once _ _ _
theorem pay1_3 (x : FVec Ideal S2048x128 .f32) (w : FVec Ideal S128x128 .f32) : k1_pay3 (F := Ideal) x w = times x w := once _ _ _
theorem pay1_4 (x : FVec Ideal S2048x128 .f32) (w a : FVec Ideal S128x128 .f32) : k1_pay4 (F := Ideal) x w a = times (times x w) a := twice _ _ _ _ _
theorem pay1_5 (x : FVec Ideal S2048x128 .f32) (w a : FVec Ideal S128x128 .f32) : k1_pay5 (F := Ideal) x w a = times (times x w) a := twice _ _ _ _ _

theorem place1_0 : ∀ t : Fin cfg1.N, win1_0.index t = ![(grid1.coords t 0).val, 0] := (by decide +kernel : ∀ t : Fin grid1.N, _)
theorem place1_5 : ∀ t : Fin cfg1.N, win1_5.index t = ![(grid1.coords t 0).val, 0] := (by decide +kernel : ∀ t : Fin grid1.N, _)
theorem place1_6 : ∀ t : Fin cfg1.N, win1_6.index t = ![(grid1.coords t 0).val, 0] := (by decide +kernel : ∀ t : Fin grid1.N, _)
theorem place1_7 : ∀ t : Fin cfg1.N, win1_7.index t = ![(grid1.coords t 0).val, 0] := (by decide +kernel : ∀ t : Fin grid1.N, _)
theorem place1_8 : ∀ t : Fin cfg1.N, win1_8.index t = ![(grid1.coords t 0).val, 0] := (by decide +kernel : ∀ t : Fin grid1.N, _)
theorem place1_1 : ∀ t : Fin cfg1.N, win1_1.index t = ![0, 0] := (by decide +kernel : ∀ t : Fin grid1.N, _)
theorem place1_2 : ∀ t : Fin cfg1.N, win1_2.index t = ![0, 0] := (by decide +kernel : ∀ t : Fin grid1.N, _)
theorem place1_3 : ∀ t : Fin cfg1.N, win1_3.index t = ![0, 0] := (by decide +kernel : ∀ t : Fin grid1.N, _)
theorem place1_4 : ∀ t : Fin cfg1.N, win1_4.index t = ![0, 0] := (by decide +kernel : ∀ t : Fin grid1.N, _)

/-- Row `r` of the block at point `t` is row `2048 t + r` of the array. -/
theorem row1 (t : Fin cfg1.N) (y : S2048x128.Idx) (i : S120832x128.Idx) (h : (i 0).val = (grid1.coords t 0).val * 2048 + (y 0).val) (k : Fin 128) :
    (iblk1 V c 0 t : FVec Ideal S2048x128 .f32) (ValueIdx.ix2 (y 0) k) = (V c main_v22 : FVec Ideal S120832x128 .f32) (ValueIdx.ix2 (i 0) k) := by
  blk_simp [iblk1]
  refine congrArg _ ?_
  blk_ext [place1_0]
  exact h.symm

/-- The other blocks are whole arrays. -/
theorem block1_1 (t : Fin cfg1.N) : iblk1 V c 1 t = V c main_arg7 := by
  funext y
  blk_simp [iblk1]
  refine congrArg _ ?_
  blk_ext [place1_1]

theorem block1_2 (t : Fin cfg1.N) : iblk1 V c 2 t = V c main_arg9 := by
  funext y
  blk_simp [iblk1]
  refine congrArg _ ?_
  blk_ext [place1_2]

theorem block1_3 (t : Fin cfg1.N) : iblk1 V c 3 t = V c main_v26 := by
  funext y
  blk_simp [iblk1]
  refine congrArg _ ?_
  blk_ext [place1_3]

theorem block1_4 (t : Fin cfg1.N) : iblk1 V c 4 t = V c main_v30 := by
  funext y
  blk_simp [iblk1]
  refine congrArg _ ?_
  blk_ext [place1_4]

/-- What the grid leaves in one of its results. -/
theorem arr1_5 : (dat1 V c).arrAt 5 cfg1.N = times (M := 120832) (V c main_v22) (V c main_arg7) := by
  refine (dat1 V c).arrAt_eq_of_covers 5 _ (by decide +kernel) fun t hf y => ?_
  blk_simp
  rw [after1_5]
  frame_out
  rw [pay1_2]
  exact times_congr (fun k => row1 V c t y _ (by blk_simp [place1_5]) k) (block1_1 V c t) (Fin.ext (by blk_simp [place1_5]))

/-- What the grid leaves in one of its results. -/
theorem arr1_6 : (dat1 V c).arrAt 6 cfg1.N = times (M := 120832) (V c main_v22) (V c main_arg9) := by
  refine (dat1 V c).arrAt_eq_of_covers 6 _ (by decide +kernel) fun t hf y => ?_
  blk_simp
  rw [after1_6]
  frame_out
  rw [pay1_3]
  exact times_congr (fun k => row1 V c t y _ (by blk_simp [place1_6]) k) (block1_2 V c t) (Fin.ext (by blk_simp [place1_6]))

/-- What the grid leaves in one of its results. -/
theorem arr1_7 : (dat1 V c).arrAt 7 cfg1.N = times (times (M := 120832) (V c main_v22) (V c main_arg7)) (V c main_v26) := by
  refine (dat1 V c).arrAt_eq_of_covers 7 _ (by decide +kernel) fun t hf y => ?_
  blk_simp
  rw [after1_7]
  frame_out
  rw [pay1_4]
  exact times_times_congr (fun k => row1 V c t y _ (by blk_simp [place1_7]) k) (block1_1 V c t) (block1_3 V c t) (Fin.ext (by blk_simp [place1_7]))

/-- What the grid leaves in one of its results. -/
theorem arr1_8 : (dat1 V c).arrAt 8 cfg1.N = times (times (M := 120832) (V c main_v22) (V c main_arg9)) (V c main_v30) := by
  refine (dat1 V c).arrAt_eq_of_covers 8 _ (by decide +kernel) fun t hf y => ?_
  blk_simp
  rw [after1_8]
  frame_out
  rw [pay1_5]
  exact times_times_congr (fun k => row1 V c t y _ (by blk_simp [place1_8]) k) (block1_2 V c t) (block1_4 V c t) (Fin.ext (by blk_simp [place1_8]))

end Second

end Cert.Edge.Ker

end
-- ==== Proof.KernelInputs.lean ====
/- What the kernel's host operations put before each of its two products, and what they cut from them. -/
module

public import proofs.«01_k».proof.Proof.Layer
public import proofs.«01_k».proof.Proof.Gen.KernelIdeal.Launch
public import Idealize.ShloMosaic.Lib.StableHlo.RunRead

@[expose] public section

noncomputable section

namespace Cert.Edge.Ker

open Idealize.ShloMosaic Idealize.ShloMosaic.StableHlo Cert.KernelIdeal Cert.KernelIdeal.Gen

variable (V : Valuation τ sig (Elt Ideal))

/-- The rows of exercises and concepts, one after the other … -/
def feats_ek (x1 : FVec Ideal S20000x128 .f32) (x0 : FVec Ideal S128x128 .f32) : FVec Ideal S20128x128 .f32 :=
  concatenate S20128x128 0 [⟨S20000x128, x1⟩, ⟨S128x128, x0⟩] concatenates_S20000x128_S128x128_S20128x128_d0

/-- … of exercises and students. -/
def feats_es (x1 : FVec Ideal S20000x128 .f32) (x2 : FVec Ideal S100000x128 .f32) : FVec Ideal S120000x128 .f32 :=
  concatenate S120000x128 0 [⟨S20000x128, x1⟩, ⟨S100000x128, x2⟩] concatenates_S20000x128_S100000x128_S120000x128_d0

/-- The two halves of a layer's score weights as the first two columns of a square matrix, the rest zero. -/
def halves (a : FVec Ideal S256x1 .f32) : FVec Ideal S128x128 .f32 :=
  concatenate S128x128 1 [⟨S128x1, extractStridedSlice S128x1 ![0, 0] a slices_S256x1_S128x1_0_0⟩,
    ⟨S128x1, extractStridedSlice S128x1 ![128, 0] a slices_S256x1_S128x1_128_0⟩,
    ⟨S128x126, broadcastInDim S128x126 ![] bcast_S_S128x126 (constant S_ .f32 0x00000000#32)⟩] concatenates_S128x1_S128x1_S128x126_S128x128_d1

/-- The rows of the two kinds of node, one after the other. -/
theorem feats_ek_read : after hostOps0 V (Proc.devRef .tc main_v0) = feats_ek (V (Proc.devRef .tc main_arg1)) (V (Proc.devRef .tc main_arg0)) := by
  after_reads_simp
  rfl

/-- The rows of the two kinds of node, one after the other. -/
theorem feats_es_read : after hostOps0 V (Proc.devRef .tc main_v1) = feats_es (V (Proc.devRef .tc main_arg1)) (V (Proc.devRef .tc main_arg2)) := by
  after_reads_simp
  rfl

/-- Those rows padded to whole blocks. -/
theorem padded_ek : after hostOps0_1 V (Proc.devRef .tc main_v2)
    = pad S20480x128 ![0, 0] ![352, 0] ![0, 0] (V (Proc.devRef .tc main_v0) : FVec Ideal S20128x128 .f32)
        (sitofp .f32 (V (Proc.devRef .tc main_c) : IVec S_ 32) : FVec Ideal S_ .f32) pads_S20128x128_S20480x128_03520_000 h_S_ := by
  after_reads_simp
  rfl

/-- A layer's score weights in two columns. -/
theorem halves_kfe : after hostOps0_2 V (Proc.devRef .tc main_v6) = halves (V (Proc.devRef .tc main_arg4)) := by
  after_reads_simp
  rfl

/-- A layer's score weights in two columns. -/
theorem halves_efk : after hostOps0_2 V (Proc.devRef .tc main_v10) = halves (V (Proc.devRef .tc main_arg6)) := by
  after_reads_simp
  rfl

/-- Those rows padded to whole blocks. -/
theorem padded_es : after hostOps1_1 V (Proc.devRef .tc main_v22)
    = pad S120832x128 ![0, 0] ![832, 0] ![0, 0] (V (Proc.devRef .tc main_v1) : FVec Ideal S120000x128 .f32)
        (sitofp .f32 (V (Proc.devRef .tc main_c_1) : IVec S_ 32) : FVec Ideal S_ .f32) pads_S120000x128_S120832x128_08320_000 h_S_ := by
  after_reads_simp
  rfl

/-- A layer's score weights in two columns. -/
theorem halves_sfe : after hostOps1_2 V (Proc.devRef .tc main_v26) = halves (V (Proc.devRef .tc main_arg8)) := by
  after_reads_simp
  rfl

/-- A layer's score weights in two columns. -/
theorem halves_efs : after hostOps1_2 V (Proc.devRef .tc main_v30) = halves (V (Proc.devRef .tc main_arg10)) := by
  after_reads_simp
  rfl

/-- The rows of exercises and concepts alone, and a column of them. -/
def rows_ek (y : FVec Ideal S20480x128 .f32) : FVec Ideal S20128x128 .f32 := extractStridedSlice S20128x128 ![0, 0] y slices_S20480x128_S20128x128_0_0
def first_ek (y : FVec Ideal S20480x128 .f32) : FVec Ideal S20128 .f32 :=
  shapeCast S20128 (extractStridedSlice S20128x1 ![0, 0] y slices_S20480x128_S20128x1_0_0) shapeCasts_S20128x1_S20128
def second_ek (y : FVec Ideal S20480x128 .f32) : FVec Ideal S20128 .f32 :=
  shapeCast S20128 (extractStridedSlice S20128x1 ![0, 1] y slices_S20480x128_S20128x1_0_1) shapeCasts_S20128x1_S20128

/-- The same for exercises and students. -/
def rows_es (y : FVec Ideal S120832x128 .f32) : FVec Ideal S120000x128 .f32 := extractStridedSlice S120000x128 ![0, 0] y slices_S120832x128_S120000x128_0_0
def first_es (y : FVec Ideal S120832x128 .f32) : FVec Ideal S120000 .f32 :=
  shapeCast S120000 (extractStridedSlice S120000x1 ![0, 0] y slices_S120832x128_S120000x1_0_0) shapeCasts_S120000x1_S120000
def second_es (y : FVec Ideal S120832x128 .f32) : FVec Ideal S120000 .f32 :=
  shapeCast S120000 (extractStridedSlice S120000x1 ![0, 1] y slices_S120832x128_S120000x1_0_1) shapeCasts_S120000x1_S120000

/-- The arrays cut out of the four results of a grid. -/
theorem cut_ek : after hostOps1 V (Proc.devRef .tc main_v12) = rows_ek (V (Proc.devRef .tc main_v11_0))
    ∧ after hostOps1 V (Proc.devRef .tc main_v13) = rows_ek (V (Proc.devRef .tc main_v11_1))
    ∧ after hostOps1 V (Proc.devRef .tc main_v15) = first_ek (V (Proc.devRef .tc main_v11_2))
    ∧ after hostOps1 V (Proc.devRef .tc main_v17) = second_ek (V (Proc.devRef .tc main_v11_2))
    ∧ after hostOps1 V (Proc.devRef .tc main_v19) = first_ek (V (Proc.devRef .tc main_v11_3))
    ∧ after hostOps1 V (Proc.devRef .tc main_v21) = second_ek (V (Proc.devRef .tc main_v11_3)) := by
  after_reads_simp
  exact ⟨rfl, rfl, rfl, rfl, rfl, rfl⟩

/-- The arrays cut out of the four results of a grid. -/
theorem cut_es : after hostOps2 V (Proc.devRef .tc main_v32) = rows_es (V (Proc.devRef .tc main_v31_0))
    ∧ after hostOps2 V (Proc.devRef .tc main_v33) = rows_es (V (Proc.devRef .tc main_v31_1))
    ∧ after hostOps2 V (Proc.devRef .tc main_v35) = first_es (V (Proc.devRef .tc main_v31_2))
    ∧ after hostOps2 V (Proc.devRef .tc main_v37) = second_es (V (Proc.devRef .tc main_v31_2))
    ∧ after hostOps2 V (Proc.devRef .tc main_v39) = first_es (V (Proc.devRef .tc main_v31_3))
    ∧ after hostOps2 V (Proc.devRef .tc main_v41) = second_es (V (Proc.devRef .tc main_v31_3)) := by
  after_reads_simp
  exact ⟨rfl, rfl, rfl, rfl, rfl, rfl⟩

end Cert.Edge.Ker

end
-- ==== Proof.Features.lean ====
/- A layer of the kernel on its products, against a layer of the reference on its own: the kernel's padded product cut to the
   nodes is the reference's product, and its second product with the score weights' halves gives each node's two parts of a
   score. -/
module

public import proofs.«01_k».proof.Proof.Products
public import proofs.«01_k».proof.Proof.KernelInputs
public import Idealize.ShloMosaic.Lib.KernelVsHost

@[expose] public section

noncomputable section

namespace Cert.Edge.Ker

open Idealize.ShloMosaic Cert.KernelIdeal Cert.KernelIdeal.Gen

/-- A padded array keeps its rows. -/
theorem padded_row {n N p : ℕ} {S : Shape} (x : FVec Ideal ⟨2, ![n, 128]⟩ .f32) (u : FVec Ideal S .f32)
    (h : (⟨2, ![n, 128]⟩ : Shape).Pads ![0, 0] ![p, 0] ![0, 0] ⟨2, ![N, 128]⟩) (hu : 0 < S.numel) (v : Fin n) (k : Fin 128) (hv : v.val < N) :
    pad ⟨2, ![N, 128]⟩ ![0, 0] ![p, 0] ![0, 0] x u h hu (ValueIdx.ix2 ⟨v.val, hv⟩ k) = x (ValueIdx.ix2 v k) := by
  refine pad_apply_of_inside _ _ _ x u h hu _ _ fun a => ?_
  match a with
  | ⟨0, _⟩ => show v.val = 0 + v.val * (0 + 1); omega
  | ⟨1, _⟩ => show k.val = 0 + k.val * (0 + 1); omega

/-- A slice of rows from `o` on. -/
theorem rows_apply {M C R : ℕ} {α : Type} (o : ℕ) (h) (x : (⟨2, ![M, C]⟩ : Shape).Idx → α) (v : Fin R) (k : Fin C) (hv : o + v.val < M) :
    extractStridedSlice ⟨2, ![R, C]⟩ ![o, 0] x h (ValueIdx.ix2 v k) = x (ValueIdx.ix2 ⟨o + v.val, hv⟩ k) := by
  refine extractStridedSlice_apply _ x h _ _ fun a => ?_
  match a with
  | ⟨0, _⟩ => rfl
  | ⟨1, _⟩ => show k.val = 0 + k.val; omega

/-- The first column of the score weights' matrix is their first half … -/
theorem halves_first (a : FVec Ideal S256x1 .f32) (j : Fin 128) (hj : 0 + j.val < 256) :
    halves a (ValueIdx.ix2 j 0) = a (ValueIdx.ix2 ⟨0 + j.val, hj⟩ 0) := by
  refine (concatenate_apply_piece (t := S128x128) 1 _ _ _ 0 (by simp) S128x1 _ rfl rfl 0 rfl (ValueIdx.ix2 j 0) (fun b hb => ?_) ?_).trans
    (rows_apply 0 _ a j 0 hj)
  · match b with
    | ⟨0, _⟩ => rfl
    | ⟨1, _⟩ => exact absurd rfl hb
  · rfl

/-- … and the second column their second. -/
theorem halves_second (a : FVec Ideal S256x1 .f32) (j : Fin 128) (hj : 128 + j.val < 256) :
    halves a (ValueIdx.ix2 j 1) = a (ValueIdx.ix2 ⟨128 + j.val, hj⟩ 0) := by
  refine (concatenate_apply_piece (t := S128x128) 1 _ _ _ 1 (by simp) S128x1 _ rfl rfl 1 (by simp) (ValueIdx.ix2 j 0) (fun b hb => ?_) ?_).trans
    (rows_apply 128 _ a j 0 hj)
  · match b with
    | ⟨0, _⟩ => rfl
    | ⟨1, _⟩ => exact absurd rfl hb
  · rfl

section Layer

variable {n N E : ℕ} (X : FVec Ideal ⟨2, ![N, 128]⟩ .f32) (x : FVec Ideal ⟨2, ![n, 128]⟩ .f32) (w : FVec Ideal ⟨2, ![128, 128]⟩ .f32)
  (a : FVec Ideal ⟨2, ![256, 1]⟩ .f32) (hN : n ≤ N) (hX : ∀ (v : Fin n) (k : Fin 128), X (ValueIdx.ix2 ⟨v.val, v.isLt.trans_le hN⟩ k) = x (ValueIdx.ix2 v k))

include hX

/-- A row of the padded product that is a node's is that row of the plain product. -/
theorem times_row (v : Fin n) (k : Fin 128) : times X w (ValueIdx.ix2 ⟨v.val, v.isLt.trans_le hN⟩ k)
    = Host.dotGeneral (DotDims.plain n 128 128) none x w (ValueIdx.ix2 v k) := by
  rw [StackMember.dotGeneral_plain_apply]
  exact Finset.sum_congr rfl fun j _ => congrArg (· * _) (hX v j)

/-- The product cut to the nodes. -/
theorem times_cut (h) : extractStridedSlice ⟨2, ![n, 128]⟩ ![0, 0] (times X w) h = Host.dotGeneral (DotDims.plain n 128 128) none x w := by
  funext i
  obtain ⟨v, k, rfl⟩ : ∃ (v : Fin n) (k : Fin 128), i = ValueIdx.ix2 v k := ⟨i 0, i 1, ValueIdx.eq_ix2 i⟩
  rw [rows_apply 0 h _ v k (by have := v.isLt; omega), ← times_row X x w hN hX]
  refine congrArg (times X w) (congrArg (ValueIdx.ix2 · k) (Fin.ext (Nat.zero_add _)))

/-- A column of the second product cut to the nodes: each node's row against a half of the score weights. -/
theorem part_cut (A : FVec Ideal ⟨2, ![128, 128]⟩ .f32) (o o' : ℕ) (ho : o < 128) (ho' : o' + 128 ≤ 256)
    (hA : ∀ (j : Fin 128) (hj : o' + j.val < 256), A (ValueIdx.ix2 j ⟨o, ho⟩) = a (ValueIdx.ix2 ⟨o' + j.val, hj⟩ 0)) (h hc) (v : Fin n) :
    shapeCast ⟨1, ![n]⟩ (extractStridedSlice ⟨2, ![n, 1]⟩ ![0, o] (times (times X w) A) h) hc (ValueIdx.ix1 v)
      = half (Host.dotGeneral (DotDims.plain n 128 128) none x w) a o' ho' v := by
  rw [ofColumn_apply]
  rw [extractStridedSlice_apply _ _ h _ (ValueIdx.ix2 ⟨v.val, v.isLt.trans_le hN⟩ ⟨o, ho⟩) fun b => by
    match b with
    | ⟨0, _⟩ => show v.val = 0 + v.val; omega
    | ⟨1, _⟩ => show o = o + 0; omega]
  refine Finset.sum_congr rfl fun j _ => ?_
  exact congrArg₂ (· * ·) (times_row X x w hN hX v j) (hA j _)

/-- The kernel's layer on its products is the reference's on its own. -/
theorem layer_on_products (hn : 0 < n) (hF : FusedFacts n E) (hP : PlainFacts n E) (src dst : IVec ⟨1, ![E]⟩ 32) (h h₁ h₂ hc) :
    fusedLayer hF (extractStridedSlice ⟨2, ![n, 128]⟩ ![0, 0] (times X w) h)
        (shapeCast ⟨1, ![n]⟩ (extractStridedSlice ⟨2, ![n, 1]⟩ ![0, 0] (times (times X w) (halves a)) h₁) hc)
        (shapeCast ⟨1, ![n]⟩ (extractStridedSlice ⟨2, ![n, 1]⟩ ![0, 1] (times (times X w) (halves a)) h₂) hc) src dst
      = plainLayer hP (Host.dotGeneral (DotDims.plain n 128 128) none x w) a src dst := by
  rw [fusedLayer_eq hn, plainLayer_eq hn, times_cut X x w hN hX]
  rw [show (fun v => shapeCast ⟨1, ![n]⟩ (extractStridedSlice ⟨2, ![n, 1]⟩ ![0, 0] (times (times X w) (halves a)) h₁) hc (ValueIdx.ix1 v))
      = half (Host.dotGeneral (DotDims.plain n 128 128) none x w) a 0 (by decide) from
    funext fun v => part_cut X x w a hN hX (halves a) 0 0 (by decide) (by decide) (halves_first a) h₁ hc v]
  rw [show (fun v => shapeCast ⟨1, ![n]⟩ (extractStridedSlice ⟨2, ![n, 1]⟩ ![0, 1] (times (times X w) (halves a)) h₂) hc (ValueIdx.ix1 v))
      = half (Host.dotGeneral (DotDims.plain n 128 128) none x w) a 128 (by decide) from
    funext fun v => part_cut X x w a hN hX (halves a) 1 128 (by decide) (by decide) (halves_second a) h₂ hc v]

end Layer

end Cert.Edge.Ker

end
-- ==== Proof.RefLayers.lean ====
/- The reference's results, from its layers: each of its four layers is `plainLayer` of its own node features, and each
   result is a closing function (the attention over graphs, or a residual sum) of the layers' arrays. -/
module

public import proofs.«01_k».proof.Proof.Layer
public import proofs.«01_k».proof.Proof.Gen.ReferenceIdeal.Read

@[expose] public section

noncomputable section

namespace Cert.Edge.Ref

open Idealize.ShloMosaic Cert.ReferenceIdeal Cert.ReferenceIdeal.Gen Cert.ReferenceIdeal.Read

/-- The facts of the layers over exercises and concepts. -/
theorem facts_ek : PlainFacts 20128 100000 :=
  ⟨bcast_S_S100000, bcast_S100000_S100000x1_0, gather_S20128x128_S100000x1_S100000x128_1_0_n_n_0_1_1128_wf,
    concatenates_S100000x128_S100000x128_S100000x256_d1, bcast_S_S100000x1, shapeCasts_S100000x1_S100000, bcast_S100000_S1x100000_1,
    bcast_S1x100000_S20128x100000_0_1, bcast_S_S20128x100000, reducesTo_S20128x100000_S20128_d1, h_S_, bcast_S_S20128,
    gather_S20128_S100000x1_S100000_n_0_n_n_0_1_1_wf, scatter_S20128_S100000x1_S100000_n_0_0_1_wf, bcast_S100000x1_S100000x128_0_1,
    bcast_S_S20128x128, scatter_S20128x128_S100000x1_S100000x128_1_0_0_1_wf⟩

/-- The facts of the layers over exercises and students. -/
theorem facts_es : PlainFacts 120000 500000 :=
  ⟨bcast_S_S500000, bcast_S500000_S500000x1_0, gather_S120000x128_S500000x1_S500000x128_1_0_n_n_0_1_1128_wf,
    concatenates_S500000x128_S500000x128_S500000x256_d1, bcast_S_S500000x1, shapeCasts_S500000x1_S500000, bcast_S500000_S1x500000_1,
    bcast_S1x500000_S120000x500000_0_1, bcast_S_S120000x500000, reducesTo_S120000x500000_S120000_d1, h_S_, bcast_S_S120000,
    gather_S120000_S500000x1_S500000_n_0_n_n_0_1_1_wf, scatter_S120000_S500000x1_S500000_n_0_0_1_wf, bcast_S500000x1_S500000x128_0_1,
    bcast_S_S120000x128, scatter_S120000x128_S500000x1_S500000x128_1_0_0_1_wf⟩

/-! ## The four layers -/

/-- The reference's operations for one layer are the plain layer. -/
theorem layer_kfe (x0 : FVec Ideal S128x128 .f32) (x1 : FVec Ideal S20000x128 .f32) (x3 : FVec Ideal S128x128 .f32) (x4 : FVec Ideal S256x1 .f32)
    (x17 x18 : IVec S100000 32) :
    val_main_v75 (F := Ideal) x0 x1 x3 x4 x17 x18 = plainLayer facts_ek (val_main_v1 (F := Ideal) x0 x1 x3) x4 x17 x18 := rfl

/-- The reference's operations for one layer are the plain layer. -/
theorem layer_efk (x0 : FVec Ideal S128x128 .f32) (x1 : FVec Ideal S20000x128 .f32) (x5 : FVec Ideal S128x128 .f32) (x6 : FVec Ideal S256x1 .f32)
    (x19 x20 : IVec S100000 32) :
    val_main_v150 (F := Ideal) x0 x1 x5 x6 x19 x20 = plainLayer facts_ek (val_main_v76 (F := Ideal) x0 x1 x5) x6 x19 x20 := rfl

/-- The reference's operations for one layer are the plain layer. -/
theorem layer_sfe (x1 : FVec Ideal S20000x128 .f32) (x2 : FVec Ideal S100000x128 .f32) (x7 : FVec Ideal S128x128 .f32) (x8 : FVec Ideal S256x1 .f32)
    (x21 x22 : IVec S500000 32) :
    val_main_v226 (F := Ideal) x1 x2 x7 x8 x21 x22 = plainLayer facts_es (val_main_v152 (F := Ideal) x1 x2 x7) x8 x21 x22 := rfl

/-- The reference's operations for one layer are the plain layer. -/
theorem layer_efs (x1 : FVec Ideal S20000x128 .f32) (x2 : FVec Ideal S100000x128 .f32) (x9 : FVec Ideal S128x128 .f32) (x10 : FVec Ideal S256x1 .f32)
    (x23 x24 : IVec S500000 32) :
    val_main_v301 (F := Ideal) x1 x2 x9 x10 x23 x24 = plainLayer facts_es (val_main_v227 (F := Ideal) x1 x2 x9) x10 x23 x24 := rfl

/-! ## The closing functions -/

/-- The concepts' scores over graphs: one column. -/
def knowScore (x0 : FVec Ideal S128x128 .f32) (w : FVec Ideal S256x1 .f32) (b : FVec Ideal S1 .f32) (d : FVec Ideal S128x128 .f32) :
    FVec Ideal S128x1 .f32 :=
  addf (Host.dotGeneral dot_S128x256_S256x1_S128x1_1_0_0_1_n_n none
      (concatenate S128x256 1 [⟨S128x128, x0⟩, ⟨S128x128, d⟩] concatenates_S128x128_S128x128_S128x256_d1) w)
    (broadcastInDim S128x1 ![0, 1] bcast_S1x1_S128x1_0_1 (broadcastInDim S1x1 ![1] bcast_S1_S1x1_1 b))

/-- Their exponentials, shifted by the row's largest. -/
def knowExp (s : FVec Ideal S128x1 .f32) : FVec Ideal S128x1 .f32 :=
  Host.exp (subf s (broadcastInDim S128x1 ![0] bcast_S128_S128x1_0
    (maximumf (broadcastInDim S128 ![] bcast_S_S128 (constant S_ .f32 0xFF800000#32))
      (Host.reduce FloatOps.maximumf s (constant S_ .f32 0xFF800000#32) reducesTo_S128x1_S128_d1 h_S_))))

/-- The weighted graph rows added to the concepts' own. -/
def knowSum (x0 d : FVec Ideal S128x128 .f32) (e : FVec Ideal S128x1 .f32) : FVec Ideal S128x128 .f32 :=
  addf x0 (mulf (broadcastInDim S128x128 ![0, 1] bcast_S128x1_S128x128_0_1
    (Host.divf e (broadcastInDim S128x1 ![0] bcast_S128_S128x1_0
      (Host.reduceAdd e (constant S_ .f32 0x00000000#32) reducesTo_S128x1_S128_d1 h_S_)))) d)

/-- The concepts' result, from the graph rows `d`. -/
def knowOut (x0 : FVec Ideal S128x128 .f32) (w : FVec Ideal S256x1 .f32) (b : FVec Ideal S1 .f32) (d : FVec Ideal S128x128 .f32) :
    FVec Ideal S128x128 .f32 := knowSum x0 d (knowExp (knowScore x0 w b d))

/-- The exercises' score of one graph. -/
def exerScore (x1 : FVec Ideal S20000x128 .f32) (w : FVec Ideal S256x1 .f32) (b : FVec Ideal S1 .f32) (d : FVec Ideal S20000x128 .f32) :
    FVec Ideal S20000x1 .f32 :=
  addf (Host.dotGeneral dot_S20000x256_S256x1_S20000x1_1_0_0_1_n_n none
      (concatenate S20000x256 1 [⟨S20000x128, x1⟩, ⟨S20000x128, d⟩] concatenates_S20000x128_S20000x128_S20000x256_d1) w)
    (broadcastInDim S20000x1 ![0, 1] bcast_S1x1_S20000x1_0_1 (broadcastInDim S1x1 ![1] bcast_S1_S1x1_1 b))

/-- Two graphs' scores side by side. -/
def exerScores (s₁ s₂ : FVec Ideal S20000x1 .f32) : FVec Ideal S20000x2 .f32 :=
  concatenate S20000x2 1 [⟨S20000x1, s₁⟩, ⟨S20000x1, s₂⟩] concatenates_S20000x1_S20000x1_S20000x2_d1

/-- Their exponentials, shifted by the row's largest. -/
def exerExp (s : FVec Ideal S20000x2 .f32) : FVec Ideal S20000x2 .f32 :=
  Host.exp (subf s (broadcastInDim S20000x2 ![0, 1] bcast_S20000x1_S20000x2_0_1 (broadcastInDim S20000x1 ![0] bcast_S20000_S20000x1_0
    (maximumf (broadcastInDim S20000 ![] bcast_S_S20000 (constant S_ .f32 0xFF800000#32))
      (Host.reduce FloatOps.maximumf s (constant S_ .f32 0xFF800000#32) reducesTo_S20000x2_S20000_d1 h_S_)))))

/-- Each row over its sum. -/
def exerWeight (e : FVec Ideal S20000x2 .f32) : FVec Ideal S20000x2 .f32 :=
  Host.divf e (broadcastInDim S20000x2 ![0, 1] bcast_S20000x1_S20000x2_0_1 (broadcastInDim S20000x1 ![0] bcast_S20000_S20000x1_0
    (Host.reduceAdd e (constant S_ .f32 0x00000000#32) reducesTo_S20000x2_S20000_d1 h_S_)))

/-- The two graphs' rows, weighted, added to the exercises' own. -/
def exerSum (x1 : FVec Ideal S20000x128 .f32) (b c : FVec Ideal S20000x128 .f32) (w : FVec Ideal S20000x2 .f32) : FVec Ideal S20000x128 .f32 :=
  addf (addf x1 (mulf (broadcastInDim S20000x128 ![0, 1] bcast_S20000x1_S20000x128_0_1
      (extractStridedSlice S20000x1 ![0, 0] w slices_S20000x2_S20000x1_0_0)) b))
    (mulf (broadcastInDim S20000x128 ![0, 1] bcast_S20000x1_S20000x128_0_1
      (extractStridedSlice S20000x1 ![0, 1] w slices_S20000x2_S20000x1_0_1)) c)

/-- The exercises' result, from the two graphs' rows. -/
def exerOut (x1 : FVec Ideal S20000x128 .f32) (w₁ : FVec Ideal S256x1 .f32) (b₁ : FVec Ideal S1 .f32) (w₂ : FVec Ideal S256x1 .f32)
    (b₂ : FVec Ideal S1 .f32) (b c : FVec Ideal S20000x128 .f32) : FVec Ideal S20000x128 .f32 :=
  exerSum x1 b c (exerWeight (exerExp (exerScores (exerScore x1 w₁ b₁ b) (exerScore x1 w₂ b₂ c))))

/-- The concepts' rows of a layer over exercises and concepts … -/
def lastKnow (g : FVec Ideal S20128x128 .f32) : FVec Ideal S128x128 .f32 := extractStridedSlice S128x128 ![20000, 0] g slices_S20128x128_S128x128_20000_0

/-- … and the exercises'. -/
def firstExer (g : FVec Ideal S20128x128 .f32) : FVec Ideal S20000x128 .f32 := extractStridedSlice S20000x128 ![0, 0] g slices_S20128x128_S20000x128_0_0

/-- The exercises' rows of a layer over exercises and students … -/
def firstExer' (g : FVec Ideal S120000x128 .f32) : FVec Ideal S20000x128 .f32 :=
  extractStridedSlice S20000x128 ![0, 0] g slices_S120000x128_S20000x128_0_0

/-- … and the students'. -/
def lastStu (g : FVec Ideal S120000x128 .f32) : FVec Ideal S100000x128 .f32 :=
  extractStridedSlice S100000x128 ![20000, 0] g slices_S120000x128_S100000x128_20000_0

/-! ## The three results -/

/-- The reference's result, from its layers. -/
theorem result_know (x0 : FVec Ideal S128x128 .f32) (x1 : FVec Ideal S20000x128 .f32) (x3 : FVec Ideal S128x128 .f32)
    (x4 x11 : FVec Ideal S256x1 .f32) (x12 : FVec Ideal S1 .f32) (x17 x18 : IVec S100000 32) :
    val_main_v319 (F := Ideal) x0 x1 x3 x4 x11 x12 x17 x18 = knowOut x0 x11 x12 (lastKnow (val_main_v75 (F := Ideal) x0 x1 x3 x4 x17 x18)) := rfl

/-- The reference's result, from its layers. -/
theorem result_exer (x0 : FVec Ideal S128x128 .f32) (x1 : FVec Ideal S20000x128 .f32) (x2 : FVec Ideal S100000x128 .f32)
    (x5 : FVec Ideal S128x128 .f32) (x6 : FVec Ideal S256x1 .f32) (x9 : FVec Ideal S128x128 .f32) (x10 x13 : FVec Ideal S256x1 .f32)
    (x14 : FVec Ideal S1 .f32) (x15 : FVec Ideal S256x1 .f32) (x16 : FVec Ideal S1 .f32) (x19 x20 : IVec S100000 32) (x23 x24 : IVec S500000 32) :
    val_main_v351 (F := Ideal) x0 x1 x2 x5 x6 x9 x10 x13 x14 x15 x16 x19 x20 x23 x24
      = exerOut x1 x13 x14 x15 x16 (firstExer (val_main_v150 (F := Ideal) x0 x1 x5 x6 x19 x20))
          (firstExer' (val_main_v301 (F := Ideal) x1 x2 x9 x10 x23 x24)) := rfl

/-- The reference's result, from its layers. -/
theorem result_stu (x1 : FVec Ideal S20000x128 .f32) (x2 : FVec Ideal S100000x128 .f32) (x7 : FVec Ideal S128x128 .f32)
    (x8 : FVec Ideal S256x1 .f32) (x21 x22 : IVec S500000 32) :
    val_main_v353 (F := Ideal) x1 x2 x7 x8 x21 x22 = addf x2 (lastStu (val_main_v226 (F := Ideal) x1 x2 x7 x8 x21 x22)) := rfl

end Cert.Edge.Ref

end
-- ==== Proof.KernelReads.lean ====
/- What the kernel's host operations leave behind: each stretch of them, read at the arrays the next stretch takes, from
   any contents `V` it starts from. Each layer's part is one of the named steps of `fusedLayer`, and the closing part is
   the reference's own closing functions. -/
module

public import proofs.«01_k».proof.Proof.RefLayers
public import proofs.«01_k».proof.Proof.Gen.KernelIdeal.Launch
public import Idealize.ShloMosaic.Lib.StableHlo.RunRead

@[expose] public section

noncomputable section

namespace Cert.Edge.Ker

open Idealize.ShloMosaic Idealize.ShloMosaic.StableHlo Cert.KernelIdeal Cert.KernelIdeal.Gen

/-- The facts of the layers over exercises and concepts. -/
theorem facts_ek : FusedFacts 20128 100000 :=
  ⟨bcast_S_S20128x1, bcast_S20128_S20128x1_0, concatenates_S20128x128_S20128x1_S20128x1_S20128x130_d1, bcast_S_S100000,
    bcast_S100000_S100000x1_0, gather_S20128x130_S100000x1_S100000x130_1_0_n_n_0_1_1130_wf, slices_S100000x130_S100000x1_0_129,
    shapeCasts_S100000x1_S100000, gather_S20128_S100000x1_S100000_n_0_n_n_0_1_1_wf, slices_S100000x130_S100000x129_0_0,
    bcast_S100000x1_S100000x129_0_1, bcast_S_S20128x129, scatter_S20128x129_S100000x1_S100000x129_1_0_0_1_wf,
    slices_S20128x129_S20128x128_0_0, slices_S20128x129_S20128x1_0_128, bcast_S20128x1_S20128x128_0_1⟩

/-- The facts of the layers over exercises and students. -/
theorem facts_es : FusedFacts 120000 500000 :=
  ⟨bcast_S_S120000x1, bcast_S120000_S120000x1_0, concatenates_S120000x128_S120000x1_S120000x1_S120000x130_d1, bcast_S_S500000,
    bcast_S500000_S500000x1_0, gather_S120000x130_S500000x1_S500000x130_1_0_n_n_0_1_1130_wf, slices_S500000x130_S500000x1_0_129,
    shapeCasts_S500000x1_S500000, gather_S120000_S500000x1_S500000_n_0_n_n_0_1_1_wf, slices_S500000x130_S500000x129_0_0,
    bcast_S500000x1_S500000x129_0_1, bcast_S_S120000x129, scatter_S120000x129_S500000x1_S500000x129_1_0_0_1_wf,
    slices_S120000x129_S120000x128_0_0, slices_S120000x129_S120000x1_0_128, bcast_S120000x1_S120000x128_0_1⟩

/-- Contents of the kernel's arrays on one device. -/
abbrev Contents := Valuation τ sig (Elt Ideal)

variable (V : Contents)

/-- The slope of the leaky relu, as it is kept. -/
abbrev slope : FVec Ideal S0 .f32 := constant S0 .f32 0x3C23D70A#32

/-- The leaky relu with its slope an argument. -/
def leakyBy (s : Shape) (h0 : S0.BroadcastsInDim s ![]) (a : FVec Ideal S0 .f32) (x : FVec Ideal s .f32) : FVec Ideal s .f32 :=
  select (cmpf .oge x (broadcastInDim s ![] h0 (constant S0 .f32 0x00000000#32))) x (mulf (broadcastInDim s ![] h0 (id a)) x)

/-- At the slope that is kept it is the leaky relu. -/
theorem leakyBy_slope (s : Shape) (h0) (a : FVec Ideal S0 .f32) (ha : a = slope) (x : FVec Ideal s .f32) : leakyBy s h0 a x = leaky s h0 x := by
  rw [ha]; rfl

/-! ## The layer from concepts to exercises -/

/-- The rows read along the edges. -/
theorem kfe_rows : after hostOps2 V (Proc.devRef .tc main_v51) = fusedRows facts_ek (V (Proc.devRef .tc main_v12)) (V (Proc.devRef .tc main_v15)) (V (Proc.devRef .tc main_arg17)) := by
  after_reads_simp
  rfl

/-- The edges' scores before the leaky relu. -/
theorem kfe_score : after hostOps2 V (Proc.devRef .tc main_v61)
    = fusedScore facts_ek (V (Proc.devRef .tc main_v17)) (V (Proc.devRef .tc main_arg18)) (after hostOps2 V (Proc.devRef .tc main_v51)) := by
  after_reads_simp
  rfl

/-- The slope kept for the leaky relu. -/
theorem kfe_slope : after hostOps2 V (Proc.devRef .tc main_cst_9) = slope := by after_reads_simp

/-- The leaky relu of the scores. -/
theorem kfe_leaky : after hostOps2_1 V (Proc.devRef .tc main_v62)
    = leakyBy ⟨1, ![100000]⟩ facts_ek.flat (V (Proc.devRef .tc main_cst_9)) (V (Proc.devRef .tc main_v61)) := by
  after_reads_simp
  rfl

/-- The layer's sums and their quotient. -/
theorem kfe_out : after hostOps2_2 V (Proc.devRef .tc main_v76)
    = fusedOut facts_ek (fusedSums facts_ek (V (Proc.devRef .tc main_arg18)) (V (Proc.devRef .tc main_v51)) (V (Proc.devRef .tc main_v62))) := by
  after_reads_simp
  rfl

/-! ## The layer from exercises to concepts -/

/-- The rows read along the edges. -/
theorem efk_rows : after hostOps2_2 V (Proc.devRef .tc main_v86) = fusedRows facts_ek (V (Proc.devRef .tc main_v13)) (V (Proc.devRef .tc main_v19)) (V (Proc.devRef .tc main_arg19)) := by
  after_reads_simp
  rfl

/-- The edges' scores before the leaky relu. -/
theorem efk_score : after hostOps2_2 V (Proc.devRef .tc main_v96)
    = fusedScore facts_ek (V (Proc.devRef .tc main_v21)) (V (Proc.devRef .tc main_arg20)) (after hostOps2_2 V (Proc.devRef .tc main_v86)) := by
  after_reads_simp
  rfl

/-- The slope kept for the leaky relu. -/
theorem efk_slope : after hostOps2_2 V (Proc.devRef .tc main_cst_17) = slope := by after_reads_simp

/-- The leaky relu of the scores. -/
theorem efk_leaky : after hostOps2_3 V (Proc.devRef .tc main_v97)
    = leakyBy ⟨1, ![100000]⟩ facts_ek.flat (V (Proc.devRef .tc main_cst_17)) (V (Proc.devRef .tc main_v96)) := by
  after_reads_simp
  rfl

/-- The layer's sums and their quotient. -/
theorem efk_out : after hostOps2_4 V (Proc.devRef .tc main_v111)
    = fusedOut facts_ek (fusedSums facts_ek (V (Proc.devRef .tc main_arg20)) (V (Proc.devRef .tc main_v86)) (V (Proc.devRef .tc main_v97))) := by
  after_reads_simp
  rfl

/-! ## The layer from students to exercises -/

/-- The rows read along the edges. -/
theorem sfe_rows : after hostOps2_4 V (Proc.devRef .tc main_v121) = fusedRows facts_es (V (Proc.devRef .tc main_v32)) (V (Proc.devRef .tc main_v35)) (V (Proc.devRef .tc main_arg21)) := by
  after_reads_simp
  rfl

/-- The edges' scores before the leaky relu. -/
theorem sfe_score : after hostOps2_4 V (Proc.devRef .tc main_v131)
    = fusedScore facts_es (V (Proc.devRef .tc main_v37)) (V (Proc.devRef .tc main_arg22)) (after hostOps2_4 V (Proc.devRef .tc main_v121)) := by
  after_reads_simp
  rfl

/-- The slope kept for the leaky relu. -/
theorem sfe_slope : after hostOps2_4 V (Proc.devRef .tc main_cst_25) = slope := by after_reads_simp

/-- The leaky relu of the scores. -/
theorem sfe_leaky : after hostOps2_5 V (Proc.devRef .tc main_v132)
    = leakyBy ⟨1, ![500000]⟩ facts_es.flat (V (Proc.devRef .tc main_cst_25)) (V (Proc.devRef .tc main_v131)) := by
  after_reads_simp
  rfl

/-- The layer's sums and their quotient. -/
theorem sfe_out : after hostOps2_6 V (Proc.devRef .tc main_v146)
    = fusedOut facts_es (fusedSums facts_es (V (Proc.devRef .tc main_arg22)) (V (Proc.devRef .tc main_v121)) (V (Proc.devRef .tc main_v132))) := by
  after_reads_simp
  rfl

/-! ## The layer from exercises to students -/

/-- The rows read along the edges. -/
theorem efs_rows : after hostOps2_6 V (Proc.devRef .tc main_v156) = fusedRows facts_es (V (Proc.devRef .tc main_v33)) (V (Proc.devRef .tc main_v39)) (V (Proc.devRef .tc main_arg23)) := by
  after_reads_simp
  rfl

/-- The edges' scores before the leaky relu. -/
theorem efs_score : after hostOps2_6 V (Proc.devRef .tc main_v166)
    = fusedScore facts_es (V (Proc.devRef .tc main_v41)) (V (Proc.devRef .tc main_arg24)) (after hostOps2_6 V (Proc.devRef .tc main_v156)) := by
  after_reads_simp
  rfl

/-- The slope kept for the leaky relu. -/
theorem efs_slope : after hostOps2_6 V (Proc.devRef .tc main_cst_33) = slope := by after_reads_simp

/-- The leaky relu of the scores. -/
theorem efs_leaky : after hostOps2_7 V (Proc.devRef .tc main_v167)
    = leakyBy ⟨1, ![500000]⟩ facts_es.flat (V (Proc.devRef .tc main_cst_33)) (V (Proc.devRef .tc main_v166)) := by
  after_reads_simp
  rfl

/-- The layer's sums and their quotient. -/
theorem efs_out : after hostOps2_8 V (Proc.devRef .tc main_v181)
    = fusedOut facts_es (fusedSums facts_es (V (Proc.devRef .tc main_arg24)) (V (Proc.devRef .tc main_v156)) (V (Proc.devRef .tc main_v167))) := by
  after_reads_simp
  rfl

/-! ## The closing part -/

/-- A result, from the layers. -/
theorem close_know : after hostOps2_8 V (Proc.devRef .tc main_v199)
    = Ref.knowOut (V (Proc.devRef .tc main_arg0)) (V (Proc.devRef .tc main_arg11)) (V (Proc.devRef .tc main_arg12))
        (Ref.lastKnow (V (Proc.devRef .tc main_v76))) := by
  after_reads_simp
  rfl

/-- A result, from the layers. -/
theorem close_exer : after hostOps2_8 V (Proc.devRef .tc main_v231)
    = Ref.exerOut (V (Proc.devRef .tc main_arg1)) (V (Proc.devRef .tc main_arg13)) (V (Proc.devRef .tc main_arg14))
        (V (Proc.devRef .tc main_arg15)) (V (Proc.devRef .tc main_arg16)) (Ref.firstExer (V (Proc.devRef .tc main_v111)))
        (Ref.firstExer' (fusedOut facts_es (fusedSums facts_es (V (Proc.devRef .tc main_arg24)) (V (Proc.devRef .tc main_v156))
          (V (Proc.devRef .tc main_v167))))) := by
  after_reads_simp
  rfl

/-- A result, from the layers. -/
theorem close_stu : after hostOps2_8 V (Proc.devRef .tc main_v233)
    = addf (V (Proc.devRef .tc main_arg2) : FVec Ideal S100000x128 .f32) (Ref.lastStu (V (Proc.devRef .tc main_v146))) := by
  after_reads_simp
  rfl

end Cert.Edge.Ker

end
-- ==== Proof.KernelValue.lean ====
/- What the kernel's three results hold, in the reference's own terms: the arrays followed from the launch through the two
   products, the four layers and the closing part. -/
module

public import proofs.«01_k».proof.Proof.Features
public import proofs.«01_k».proof.Proof.KernelReads

@[expose] public section

noncomputable section

namespace Cert.Edge.Ker

open Idealize.ShloMosaic Idealize.ShloMosaic.TcCoe Idealize.ShloMosaic.StableHlo Cert.KernelIdeal Cert.KernelIdeal.Gen

/-- A layer from its parts. -/
theorem layer_of {n E : ℕ} (hF : FusedFacts n E) {z : FVec Ideal ⟨2, ![n, 128]⟩ .f32} {p q : FVec Ideal ⟨1, ![n]⟩ .f32}
    {src dst b : IVec ⟨1, ![E]⟩ 32} {rows : FVec Ideal ⟨2, ![E, 130]⟩ .f32} {sc lk : FVec Ideal ⟨1, ![E]⟩ .f32}
    (hb : b = dst) (hr : rows = fusedRows hF z p src) (hs : sc = fusedScore hF q dst rows) (hl : lk = leaky ⟨1, ![E]⟩ hF.flat sc) :
    fusedOut hF (fusedSums hF b rows lk) = fusedLayer hF z p q src dst := by
  subst hb; subst hr; subst hs; subst hl; rfl

/-- Equal inputs give equal layers. -/
theorem layer_congr {n E : ℕ} (hF : FusedFacts n E) {z z' : FVec Ideal ⟨2, ![n, 128]⟩ .f32} {p p' q q' : FVec Ideal ⟨1, ![n]⟩ .f32}
    (src dst : IVec ⟨1, ![E]⟩ 32) (hz : z = z') (hp : p = p') (hq : q = q') : fusedLayer hF z p q src dst = fusedLayer hF z' p' q' src dst := by
  rw [hz, hp, hq]

variable (m : (ℓ : Loc nD τ sig) → Buf (Elt Ideal) ℓ) (ρ : Dev nD → PrngReg) (c : Dev nD)

/-- An argument as launched. -/
abbrev arg (r : Ref sig .tc) : Buf (Elt Ideal) ((c : Thread nD τ).loc r) := m ((c : Thread nD τ).loc r)

/-! ## The layers, from what precedes each -/

/-- The layer, from the arrays that stand before its operations. -/
theorem kfe_layer : fusedOut facts_ek (fusedSums facts_ek (W10 m ρ c (Proc.devRef .tc main_arg18)) (W10 m ρ c (Proc.devRef .tc main_v51)) (W10 m ρ c (Proc.devRef .tc main_v62)))
    = fusedLayer facts_ek (W8 m ρ c (Proc.devRef .tc main_v12)) (W8 m ρ c (Proc.devRef .tc main_v15)) (W8 m ρ c (Proc.devRef .tc main_v17)) (arg m c main_arg17) (arg m c main_arg18) :=
  layer_of facts_ek (W10_args m ρ c main_arg18 (by decide))
    ((W10_of m ρ c main_v51 (by decide)).trans ((kfe_rows (W8 m ρ c)).trans
      (congrArg (fusedRows facts_ek _ _) (W8_args m ρ c main_arg17 (by decide)))))
    ((kfe_score (W8 m ρ c)).trans (congrArg₂ (fusedScore facts_ek _) (W8_args m ρ c main_arg18 (by decide)) (W10_of m ρ c main_v51 (by decide)).symm))
    ((kfe_leaky (W9 m ρ c)).trans (leakyBy_slope _ _ _ (kfe_slope (W8 m ρ c)) _))

/-- The layer, from the arrays that stand before its operations. -/
theorem efk_layer : fusedOut facts_ek (fusedSums facts_ek (W12 m ρ c (Proc.devRef .tc main_arg20)) (W12 m ρ c (Proc.devRef .tc main_v86)) (W12 m ρ c (Proc.devRef .tc main_v97)))
    = fusedLayer facts_ek (W10 m ρ c (Proc.devRef .tc main_v13)) (W10 m ρ c (Proc.devRef .tc main_v19)) (W10 m ρ c (Proc.devRef .tc main_v21)) (arg m c main_arg19) (arg m c main_arg20) :=
  layer_of facts_ek (W12_args m ρ c main_arg20 (by decide))
    ((W12_of m ρ c main_v86 (by decide)).trans ((efk_rows (W10 m ρ c)).trans
      (congrArg (fusedRows facts_ek _ _) (W10_args m ρ c main_arg19 (by decide)))))
    ((efk_score (W10 m ρ c)).trans (congrArg₂ (fusedScore facts_ek _) (W10_args m ρ c main_arg20 (by decide)) (W12_of m ρ c main_v86 (by decide)).symm))
    ((efk_leaky (W11 m ρ c)).trans (leakyBy_slope _ _ _ (efk_slope (W10 m ρ c)) _))

/-- The layer, from the arrays that stand before its operations. -/
theorem sfe_layer : fusedOut facts_es (fusedSums facts_es (W14 m ρ c (Proc.devRef .tc main_arg22)) (W14 m ρ c (Proc.devRef .tc main_v121)) (W14 m ρ c (Proc.devRef .tc main_v132)))
    = fusedLayer facts_es (W12 m ρ c (Proc.devRef .tc main_v32)) (W12 m ρ c (Proc.devRef .tc main_v35)) (W12 m ρ c (Proc.devRef .tc main_v37)) (arg m c main_arg21) (arg m c main_arg22) :=
  layer_of facts_es (W14_args m ρ c main_arg22 (by decide))
    ((W14_of m ρ c main_v121 (by decide)).trans ((sfe_rows (W12 m ρ c)).trans
      (congrArg (fusedRows facts_es _ _) (W12_args m ρ c main_arg21 (by decide)))))
    ((sfe_score (W12 m ρ c)).trans (congrArg₂ (fusedScore facts_es _) (W12_args m ρ c main_arg22 (by decide)) (W14_of m ρ c main_v121 (by decide)).symm))
    ((sfe_leaky (W13 m ρ c)).trans (leakyBy_slope _ _ _ (sfe_slope (W12 m ρ c)) _))

/-- The layer, from the arrays that stand before its operations. -/
theorem efs_layer : fusedOut facts_es (fusedSums facts_es (W16 m ρ c (Proc.devRef .tc main_arg24)) (W16 m ρ c (Proc.devRef .tc main_v156)) (W16 m ρ c (Proc.devRef .tc main_v167)))
    = fusedLayer facts_es (W14 m ρ c (Proc.devRef .tc main_v33)) (W14 m ρ c (Proc.devRef .tc main_v39)) (W14 m ρ c (Proc.devRef .tc main_v41)) (arg m c main_arg23) (arg m c main_arg24) :=
  layer_of facts_es (W16_args m ρ c main_arg24 (by decide))
    ((W16_of m ρ c main_v156 (by decide)).trans ((efs_rows (W14 m ρ c)).trans
      (congrArg (fusedRows facts_es _ _) (W14_args m ρ c main_arg23 (by decide)))))
    ((efs_score (W14 m ρ c)).trans (congrArg₂ (fusedScore facts_es _) (W14_args m ρ c main_arg24 (by decide)) (W16_of m ρ c main_v156 (by decide)).symm))
    ((efs_leaky (W15 m ρ c)).trans (leakyBy_slope _ _ _ (efs_slope (W14 m ρ c)) _))

/-! ## The products -/

/-- The rows of exercises and concepts as launched … -/
abbrev nodes_ek : FVec Ideal S20128x128 .f32 := feats_ek (arg m c main_arg1) (arg m c main_arg0)

/-- … and of exercises and students. -/
abbrev nodes_es : FVec Ideal S120000x128 .f32 := feats_es (arg m c main_arg1) (arg m c main_arg2)

/-- A row of the padded array is the row as launched. -/
theorem rows_of_ek (v : Fin 20128) (k : Fin 128) : (V3 m ρ c main_v2 : FVec Ideal S20480x128 .f32) (ValueIdx.ix2 ⟨v.val, v.isLt.trans_le (by decide)⟩ k)
    = nodes_ek m c (ValueIdx.ix2 v k) := by
  have e : W1 m ρ c (Proc.devRef .tc main_v0) = nodes_ek m c := feats_ek_read (W0 m ρ c)
  have p := (W3_of m ρ c main_v2 (by decide)).trans (padded_ek (W1 m ρ c))
  refine (congrFun p _).trans ((padded_row _ _ _ _ v k _).trans (congrFun e _))

/-- A row of the padded array is the row as launched. -/
theorem rows_of_es (v : Fin 120000) (k : Fin 128) : (V7 m ρ c main_v22 : FVec Ideal S120832x128 .f32) (ValueIdx.ix2 ⟨v.val, v.isLt.trans_le (by decide)⟩ k)
    = nodes_es m c (ValueIdx.ix2 v k) := by
  have e : W5 m ρ c (Proc.devRef .tc main_v1) = nodes_es m c :=
    (W5_of m ρ c main_v1 (by decide)).trans ((W4_of m ρ c main_v1 (by decide)).trans ((W3_of m ρ c main_v1 (by decide)).trans
      ((W2_of m ρ c main_v1 (by decide)).trans (feats_es_read (W0 m ρ c)))))
  have p := (W7_of m ρ c main_v22 (by decide)).trans (padded_es (W5 m ρ c))
  refine (congrFun p _).trans ((padded_row _ _ _ _ v k _).trans (congrFun e _))

/-- A grid's product: the padded rows times a layer's weights. -/
theorem kfe_z : W4 m ρ c (Proc.devRef .tc main_v11_0) = times (M := 20480) (V3 m ρ c main_v2) (arg m c main_arg3) :=
  (W4_arr m ρ c 5).trans ((arr0_5 (V3 m ρ) c).trans (congrArg (times (M := 20480) (V3 m ρ c main_v2)) (W3_args m ρ c main_arg3 (by decide))))

theorem kfe_s : W4 m ρ c (Proc.devRef .tc main_v11_2)
    = times (times (M := 20480) (V3 m ρ c main_v2) (arg m c main_arg3)) (halves (arg m c main_arg4)) :=
  (W4_arr m ρ c 7).trans ((arr0_7 (V3 m ρ) c).trans
    (congrArg₂ (fun w a => times (times (M := 20480) (V3 m ρ c main_v2) w) a) (W3_args m ρ c main_arg3 (by decide))
      ((halves_kfe (W2 m ρ c)).trans (congrArg halves (W2_args m ρ c main_arg4 (by decide))))))

/-- A grid's product: the padded rows times a layer's weights. -/
theorem efk_z : W4 m ρ c (Proc.devRef .tc main_v11_1) = times (M := 20480) (V3 m ρ c main_v2) (arg m c main_arg5) :=
  (W4_arr m ρ c 6).trans ((arr0_6 (V3 m ρ) c).trans (congrArg (times (M := 20480) (V3 m ρ c main_v2)) (W3_args m ρ c main_arg5 (by decide))))

theorem efk_s : W4 m ρ c (Proc.devRef .tc main_v11_3)
    = times (times (M := 20480) (V3 m ρ c main_v2) (arg m c main_arg5)) (halves (arg m c main_arg6)) :=
  (W4_arr m ρ c 8).trans ((arr0_8 (V3 m ρ) c).trans
    (congrArg₂ (fun w a => times (times (M := 20480) (V3 m ρ c main_v2) w) a) (W3_args m ρ c main_arg5 (by decide))
      ((halves_efk (W2 m ρ c)).trans (congrArg halves (W2_args m ρ c main_arg6 (by decide))))))

/-- A grid's product: the padded rows times a layer's weights. -/
theorem sfe_z : W8 m ρ c (Proc.devRef .tc main_v31_0) = times (M := 120832) (V7 m ρ c main_v22) (arg m c main_arg7) :=
  (W8_arr m ρ c 5).trans ((arr1_5 (V7 m ρ) c).trans (congrArg (times (M := 120832) (V7 m ρ c main_v22)) (W7_args m ρ c main_arg7 (by decide))))

theorem sfe_s : W8 m ρ c (Proc.devRef .tc main_v31_2)
    = times (times (M := 120832) (V7 m ρ c main_v22) (arg m c main_arg7)) (halves (arg m c main_arg8)) :=
  (W8_arr m ρ c 7).trans ((arr1_7 (V7 m ρ) c).trans
    (congrArg₂ (fun w a => times (times (M := 120832) (V7 m ρ c main_v22) w) a) (W7_args m ρ c main_arg7 (by decide))
      ((halves_sfe (W6 m ρ c)).trans (congrArg halves (W6_args m ρ c main_arg8 (by decide))))))

/-- A grid's product: the padded rows times a layer's weights. -/
theorem efs_z : W8 m ρ c (Proc.devRef .tc main_v31_1) = times (M := 120832) (V7 m ρ c main_v22) (arg m c main_arg9) :=
  (W8_arr m ρ c 6).trans ((arr1_6 (V7 m ρ) c).trans (congrArg (times (M := 120832) (V7 m ρ c main_v22)) (W7_args m ρ c main_arg9 (by decide))))

theorem efs_s : W8 m ρ c (Proc.devRef .tc main_v31_3)
    = times (times (M := 120832) (V7 m ρ c main_v22) (arg m c main_arg9)) (halves (arg m c main_arg10)) :=
  (W8_arr m ρ c 8).trans ((arr1_8 (V7 m ρ) c).trans
    (congrArg₂ (fun w a => times (times (M := 120832) (V7 m ρ c main_v22) w) a) (W7_args m ρ c main_arg9 (by decide))
      ((halves_efs (W6 m ρ c)).trans (congrArg halves (W6_args m ρ c main_arg10 (by decide))))))

/-! ## The layers, from the launch -/

/-- An array that nothing writes in between keeps its contents. -/
theorem carry8 (r : Ref sig .tc) (h₆ : r ∉ hostOps1_1_W) (h₇ : r ∉ hostOps1_2_W)
    (h₈ : ∀ w : Fin cfg1.W, Pipeline.arrRef spec1 w = r → (cfg1.win w).isOut = false) :
    W8 m ρ c (Proc.devRef .tc r) = W5 m ρ c (Proc.devRef .tc r) :=
  (W8_of m ρ c r h₈).trans ((W7_of m ρ c r h₇).trans (W6_of m ρ c r h₆))

/-- An array that nothing writes in between keeps its contents. -/
theorem carry10 (r : Ref sig .tc) (h₆ : r ∉ hostOps1_1_W) (h₇ : r ∉ hostOps1_2_W)
    (h₈ : ∀ w : Fin cfg1.W, Pipeline.arrRef spec1 w = r → (cfg1.win w).isOut = false) (h₉ : r ∉ hostOps2_W) (h₁₀ : r ∉ hostOps2_1_W) :
    W10 m ρ c (Proc.devRef .tc r) = W5 m ρ c (Proc.devRef .tc r) :=
  (W10_of m ρ c r h₁₀).trans ((W9_of m ρ c r h₉).trans (carry8 m ρ c r h₆ h₇ h₈))

/-- An array that nothing writes in between keeps its contents. -/
theorem carry12 (r : Ref sig .tc) (h₁₀ : r ∉ hostOps2_1_W) (h₁₁ : r ∉ hostOps2_2_W) (h₁₂ : r ∉ hostOps2_3_W) :
    W12 m ρ c (Proc.devRef .tc r) = W9 m ρ c (Proc.devRef .tc r) :=
  (W12_of m ρ c r h₁₂).trans ((W11_of m ρ c r h₁₁).trans (W10_of m ρ c r h₁₀))

/-- An array that nothing writes in between keeps its contents. -/
theorem carry14 (r : Ref sig .tc) (h₁₀ : r ∉ hostOps2_1_W) (h₁₁ : r ∉ hostOps2_2_W) (h₁₂ : r ∉ hostOps2_3_W) (h₁₃ : r ∉ hostOps2_4_W)
    (h₁₄ : r ∉ hostOps2_5_W) : W14 m ρ c (Proc.devRef .tc r) = W9 m ρ c (Proc.devRef .tc r) :=
  (W14_of m ρ c r h₁₄).trans ((W13_of m ρ c r h₁₃).trans (carry12 m ρ c r h₁₀ h₁₁ h₁₂))

/-- The layer is the reference's, at the arguments as launched. -/
theorem kfe_value : fusedOut facts_ek (fusedSums facts_ek (W10 m ρ c (Proc.devRef .tc main_arg18)) (W10 m ρ c (Proc.devRef .tc main_v51)) (W10 m ρ c (Proc.devRef .tc main_v62)))
    = Cert.ReferenceIdeal.Read.val_main_v75 (F := Ideal) (arg m c main_arg0) (arg m c main_arg1) (arg m c main_arg3) (arg m c main_arg4)
        (arg m c main_arg17) (arg m c main_arg18) :=
  (kfe_layer m ρ c).trans ((layer_congr facts_ek _ _
    ((carry8 m ρ c main_v12 (by decide) (by decide) (by decide)).trans (((cut_ek (W4 m ρ c)).1).trans (congrArg rows_ek (kfe_z m ρ c))))
    ((carry8 m ρ c main_v15 (by decide) (by decide) (by decide)).trans (((cut_ek (W4 m ρ c)).2.2.1).trans (congrArg first_ek (kfe_s m ρ c))))
    ((carry8 m ρ c main_v17 (by decide) (by decide) (by decide)).trans (((cut_ek (W4 m ρ c)).2.2.2.1).trans (congrArg second_ek (kfe_s m ρ c))))).trans
    ((layer_on_products (V3 m ρ c main_v2) (nodes_ek m c) (arg m c main_arg3) (arg m c main_arg4) (by decide) (rows_of_ek m ρ c) (by decide)
      facts_ek Ref.facts_ek _ _ _ _ _ _).trans (Ref.layer_kfe _ _ _ _ _ _).symm))

/-- The layer is the reference's, at the arguments as launched. -/
theorem efk_value : fusedOut facts_ek (fusedSums facts_ek (W12 m ρ c (Proc.devRef .tc main_arg20)) (W12 m ρ c (Proc.devRef .tc main_v86)) (W12 m ρ c (Proc.devRef .tc main_v97)))
    = Cert.ReferenceIdeal.Read.val_main_v150 (F := Ideal) (arg m c main_arg0) (arg m c main_arg1) (arg m c main_arg5) (arg m c main_arg6)
        (arg m c main_arg19) (arg m c main_arg20) :=
  (efk_layer m ρ c).trans ((layer_congr facts_ek _ _
    ((carry10 m ρ c main_v13 (by decide) (by decide) (by decide) (by decide) (by decide)).trans (((cut_ek (W4 m ρ c)).2.1).trans (congrArg rows_ek (efk_z m ρ c))))
    ((carry10 m ρ c main_v19 (by decide) (by decide) (by decide) (by decide) (by decide)).trans (((cut_ek (W4 m ρ c)).2.2.2.2.1).trans (congrArg first_ek (efk_s m ρ c))))
    ((carry10 m ρ c main_v21 (by decide) (by decide) (by decide) (by decide) (by decide)).trans (((cut_ek (W4 m ρ c)).2.2.2.2.2).trans (congrArg second_ek (efk_s m ρ c))))).trans
    ((layer_on_products (V3 m ρ c main_v2) (nodes_ek m c) (arg m c main_arg5) (arg m c main_arg6) (by decide) (rows_of_ek m ρ c) (by decide)
      facts_ek Ref.facts_ek _ _ _ _ _ _).trans (Ref.layer_efk _ _ _ _ _ _).symm))

/-- The layer is the reference's, at the arguments as launched. -/
theorem sfe_value : fusedOut facts_es (fusedSums facts_es (W14 m ρ c (Proc.devRef .tc main_arg22)) (W14 m ρ c (Proc.devRef .tc main_v121)) (W14 m ρ c (Proc.devRef .tc main_v132)))
    = Cert.ReferenceIdeal.Read.val_main_v226 (F := Ideal) (arg m c main_arg1) (arg m c main_arg2) (arg m c main_arg7) (arg m c main_arg8)
        (arg m c main_arg21) (arg m c main_arg22) :=
  (sfe_layer m ρ c).trans ((layer_congr facts_es _ _
    ((carry12 m ρ c main_v32 (by decide) (by decide) (by decide)).trans (((cut_es (W8 m ρ c)).1).trans (congrArg rows_es (sfe_z m ρ c))))
    ((carry12 m ρ c main_v35 (by decide) (by decide) (by decide)).trans (((cut_es (W8 m ρ c)).2.2.1).trans (congrArg first_es (sfe_s m ρ c))))
    ((carry12 m ρ c main_v37 (by decide) (by decide) (by decide)).trans (((cut_es (W8 m ρ c)).2.2.2.1).trans (congrArg second_es (sfe_s m ρ c))))).trans
    ((layer_on_products (V7 m ρ c main_v22) (nodes_es m c) (arg m c main_arg7) (arg m c main_arg8) (by decide) (rows_of_es m ρ c) (by decide)
      facts_es Ref.facts_es _ _ _ _ _ _).trans (Ref.layer_sfe _ _ _ _ _ _).symm))

/-- The layer is the reference's, at the arguments as launched. -/
theorem efs_value : fusedOut facts_es (fusedSums facts_es (W16 m ρ c (Proc.devRef .tc main_arg24)) (W16 m ρ c (Proc.devRef .tc main_v156)) (W16 m ρ c (Proc.devRef .tc main_v167)))
    = Cert.ReferenceIdeal.Read.val_main_v301 (F := Ideal) (arg m c main_arg1) (arg m c main_arg2) (arg m c main_arg9) (arg m c main_arg10)
        (arg m c main_arg23) (arg m c main_arg24) :=
  (efs_layer m ρ c).trans ((layer_congr facts_es _ _
    ((carry14 m ρ c main_v33 (by decide) (by decide) (by decide) (by decide) (by decide)).trans (((cut_es (W8 m ρ c)).2.1).trans (congrArg rows_es (efs_z m ρ c))))
    ((carry14 m ρ c main_v39 (by decide) (by decide) (by decide) (by decide) (by decide)).trans (((cut_es (W8 m ρ c)).2.2.2.2.1).trans (congrArg first_es (efs_s m ρ c))))
    ((carry14 m ρ c main_v41 (by decide) (by decide) (by decide) (by decide) (by decide)).trans (((cut_es (W8 m ρ c)).2.2.2.2.2).trans (congrArg second_es (efs_s m ρ c))))).trans
    ((layer_on_products (V7 m ρ c main_v22) (nodes_es m c) (arg m c main_arg9) (arg m c main_arg10) (by decide) (rows_of_es m ρ c) (by decide)
      facts_es Ref.facts_es _ _ _ _ _ _).trans (Ref.layer_efs _ _ _ _ _ _).symm))

/-! ## The results -/

/-- The result is the reference's, at the arguments as launched. -/
theorem result_know : W17 m ρ c (Proc.devRef .tc main_v199)
    = Cert.ReferenceIdeal.Read.val_main_v319 (F := Ideal) (arg m c main_arg0) (arg m c main_arg1) (arg m c main_arg3) (arg m c main_arg4)
        (arg m c main_arg11) (arg m c main_arg12) (arg m c main_arg17) (arg m c main_arg18) := by
  have g : W16 m ρ c (Proc.devRef .tc main_v76) = _ :=
    (W16_of m ρ c main_v76 (by decide)).trans ((W15_of m ρ c main_v76 (by decide)).trans ((W14_of m ρ c main_v76 (by decide)).trans
      ((W13_of m ρ c main_v76 (by decide)).trans ((W12_of m ρ c main_v76 (by decide)).trans ((kfe_out (W10 m ρ c)).trans (kfe_value m ρ c))))))
  refine (close_know (W16 m ρ c)).trans (Eq.trans ?_ (Ref.result_know _ _ _ _ _ _ _ _).symm)
  rw [g, W16_args m ρ c main_arg0 (by decide), W16_args m ρ c main_arg11 (by decide), W16_args m ρ c main_arg12 (by decide)]

/-- The result is the reference's, at the arguments as launched. -/
theorem result_stu : W17 m ρ c (Proc.devRef .tc main_v233)
    = Cert.ReferenceIdeal.Read.val_main_v353 (F := Ideal) (arg m c main_arg1) (arg m c main_arg2) (arg m c main_arg7) (arg m c main_arg8)
        (arg m c main_arg21) (arg m c main_arg22) := by
  have g : W16 m ρ c (Proc.devRef .tc main_v146) = _ :=
    (W16_of m ρ c main_v146 (by decide)).trans ((sfe_out (W14 m ρ c)).trans (sfe_value m ρ c))
  refine (close_stu (W16 m ρ c)).trans (Eq.trans ?_ (Ref.result_stu _ _ _ _ _ _).symm)
  rw [g, W16_args m ρ c main_arg2 (by decide)]

/-- The result is the reference's, at the arguments as launched. -/
theorem result_exer : W17 m ρ c (Proc.devRef .tc main_v231)
    = Cert.ReferenceIdeal.Read.val_main_v351 (F := Ideal) (arg m c main_arg0) (arg m c main_arg1) (arg m c main_arg2) (arg m c main_arg5)
        (arg m c main_arg6) (arg m c main_arg9) (arg m c main_arg10) (arg m c main_arg13) (arg m c main_arg14) (arg m c main_arg15)
        (arg m c main_arg16) (arg m c main_arg19) (arg m c main_arg20) (arg m c main_arg23) (arg m c main_arg24) := by
  have g : W16 m ρ c (Proc.devRef .tc main_v111) = _ :=
    (W16_of m ρ c main_v111 (by decide)).trans ((W15_of m ρ c main_v111 (by decide)).trans ((W14_of m ρ c main_v111 (by decide)).trans
      ((efk_out (W12 m ρ c)).trans (efk_value m ρ c))))
  refine (close_exer (W16 m ρ c)).trans (Eq.trans ?_ (Ref.result_exer _ _ _ _ _ _ _ _ _ _ _ _ _ _ _).symm)
  rw [g, efs_value m ρ c, W16_args m ρ c main_arg1 (by decide), W16_args m ρ c main_arg13 (by decide), W16_args m ρ c main_arg14 (by decide),
    W16_args m ρ c main_arg15 (by decide), W16_args m ρ c main_arg16 (by decide)]

end Cert.Edge.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The reference's frame, read off its run; a program of host operations declares no semaphore. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two programs' results, as the reference's terms at the kernel's arguments. -/
theorem algebraic : Cert.algebraic_KernelIdeal_ReferenceIdeal (hKernelIdeal := Cert.KernelIdeal.Gen.facts)
    (hReferenceIdeal := Cert.ReferenceIdeal.Gen.facts) := fun m g m' g' _ hargs => by
  refine ⟨fun c => Cert.ReferenceIdeal.Read.val_main_v319 (F := Ideal) (Cert.Edge.Ker.arg m c Cert.KernelIdeal.main_arg0)
      (Cert.Edge.Ker.arg m c Cert.KernelIdeal.main_arg1) (Cert.Edge.Ker.arg m c Cert.KernelIdeal.main_arg3)
      (Cert.Edge.Ker.arg m c Cert.KernelIdeal.main_arg4) (Cert.Edge.Ker.arg m c Cert.KernelIdeal.main_arg11)
      (Cert.Edge.Ker.arg m c Cert.KernelIdeal.main_arg12) (Cert.Edge.Ker.arg m c Cert.KernelIdeal.main_arg17)
      (Cert.Edge.Ker.arg m c Cert.KernelIdeal.main_arg18),
    fun c => Cert.ReferenceIdeal.Read.val_main_v351 (F := Ideal) (Cert.Edge.Ker.arg m c Cert.KernelIdeal.main_arg0)
        (Cert.Edge.Ker.arg m c Cert.KernelIdeal.main_arg1) (Cert.Edge.Ker.arg m c Cert.KernelIdeal.main_arg2)
        (Cert.Edge.Ker.arg m c Cert.KernelIdeal.main_arg5) (Cert.Edge.Ker.arg m c Cert.KernelIdeal.main_arg6)
        (Cert.Edge.Ker.arg m c Cert.KernelIdeal.main_arg9) (Cert.Edge.Ker.arg m c Cert.KernelIdeal.main_arg10)
        (Cert.Edge.Ker.arg m c Cert.KernelIdeal.main_arg13) (Cert.Edge.Ker.arg m c Cert.KernelIdeal.main_arg14)
        (Cert.Edge.Ker.arg m c Cert.KernelIdeal.main_arg15) (Cert.Edge.Ker.arg m c Cert.KernelIdeal.main_arg16)
        (Cert.Edge.Ker.arg m c Cert.KernelIdeal.main_arg19) (Cert.Edge.Ker.arg m c Cert.KernelIdeal.main_arg20)
        (Cert.Edge.Ker.arg m c Cert.KernelIdeal.main_arg23) (Cert.Edge.Ker.arg m c Cert.KernelIdeal.main_arg24),
    fun c => Cert.ReferenceIdeal.Read.val_main_v353 (F := Ideal) (Cert.Edge.Ker.arg m c Cert.KernelIdeal.main_arg1)
        (Cert.Edge.Ker.arg m c Cert.KernelIdeal.main_arg2) (Cert.Edge.Ker.arg m c Cert.KernelIdeal.main_arg7)
        (Cert.Edge.Ker.arg m c Cert.KernelIdeal.main_arg8) (Cert.Edge.Ker.arg m c Cert.KernelIdeal.main_arg21)
        (Cert.Edge.Ker.arg m c Cert.KernelIdeal.main_arg22), ?_, ?_⟩
  · refine (θ_run Cert.KernelIdeal.defs _ _).mono (fun r h' c => ?_) (Cert.Edge.Ker.run_contents (F := Ideal) m g)
    have h := h' c
    exact ⟨(h _ (Cert.KernelIdeal.Gen.mem_uc Cert.KernelIdeal.main_v199 (by decide))).trans (Cert.Edge.Ker.result_know m g c),
        (h _ (Cert.KernelIdeal.Gen.mem_uc Cert.KernelIdeal.main_v231 (by decide))).trans (Cert.Edge.Ker.result_exer m g c),
        (h _ (Cert.KernelIdeal.Gen.mem_uc Cert.KernelIdeal.main_v233 (by decide))).trans (Cert.Edge.Ker.result_stu m g c),
        (h _ (Cert.KernelIdeal.Gen.mem_uc Cert.KernelIdeal.main_arg0 (by decide))).trans (Cert.KernelIdeal.Gen.W17_main_arg0 m g c),
        (h _ (Cert.KernelIdeal.Gen.mem_uc Cert.KernelIdeal.main_arg1 (by decide))).trans (Cert.KernelIdeal.Gen.W17_main_arg1 m g c),
        (h _ (Cert.KernelIdeal.Gen.mem_uc Cert.KernelIdeal.main_arg2 (by decide))).trans (Cert.KernelIdeal.Gen.W17_main_arg2 m g c),
        (h _ (Cert.KernelIdeal.Gen.mem_uc Cert.KernelIdeal.main_arg3 (by decide))).trans (Cert.KernelIdeal.Gen.W17_main_arg3 m g c),
        (h _ (Cert.KernelIdeal.Gen.mem_uc Cert.KernelIdeal.main_arg4 (by decide))).trans (Cert.KernelIdeal.Gen.W17_main_arg4 m g c),
        (h _ (Cert.KernelIdeal.Gen.mem_uc Cert.KernelIdeal.main_arg5 (by decide))).trans (Cert.KernelIdeal.Gen.W17_main_arg5 m g c),
        (h _ (Cert.KernelIdeal.Gen.mem_uc Cert.KernelIdeal.main_arg6 (by decide))).trans (Cert.KernelIdeal.Gen.W17_main_arg6 m g c),
        (h _ (Cert.KernelIdeal.Gen.mem_uc Cert.KernelIdeal.main_arg7 (by decide))).trans (Cert.KernelIdeal.Gen.W17_main_arg7 m g c),
        (h _ (Cert.KernelIdeal.Gen.mem_uc Cert.KernelIdeal.main_arg8 (by decide))).trans (Cert.KernelIdeal.Gen.W17_main_arg8 m g c),
        (h _ (Cert.KernelIdeal.Gen.mem_uc Cert.KernelIdeal.main_arg9 (by decide))).trans (Cert.KernelIdeal.Gen.W17_main_arg9 m g c),
        (h _ (Cert.KernelIdeal.Gen.mem_uc Cert.KernelIdeal.main_arg10 (by decide))).trans (Cert.KernelIdeal.Gen.W17_main_arg10 m g c),
        (h _ (Cert.KernelIdeal.Gen.mem_uc Cert.KernelIdeal.main_arg11 (by decide))).trans (Cert.KernelIdeal.Gen.W17_main_arg11 m g c),
        (h _ (Cert.KernelIdeal.Gen.mem_uc Cert.KernelIdeal.main_arg12 (by decide))).trans (Cert.KernelIdeal.Gen.W17_main_arg12 m g c),
        (h _ (Cert.KernelIdeal.Gen.mem_uc Cert.KernelIdeal.main_arg13 (by decide))).trans (Cert.KernelIdeal.Gen.W17_main_arg13 m g c),
        (h _ (Cert.KernelIdeal.Gen.mem_uc Cert.KernelIdeal.main_arg14 (by decide))).trans (Cert.KernelIdeal.Gen.W17_main_arg14 m g c),
        (h _ (Cert.KernelIdeal.Gen.mem_uc Cert.KernelIdeal.main_arg15 (by decide))).trans (Cert.KernelIdeal.Gen.W17_main_arg15 m g c),
        (h _ (Cert.KernelIdeal.Gen.mem_uc Cert.KernelIdeal.main_arg16 (by decide))).trans (Cert.KernelIdeal.Gen.W17_main_arg16 m g c),
        (h _ (Cert.KernelIdeal.Gen.mem_uc Cert.KernelIdeal.main_arg17 (by decide))).trans (Cert.KernelIdeal.Gen.W17_main_arg17 m g c),
        (h _ (Cert.KernelIdeal.Gen.mem_uc Cert.KernelIdeal.main_arg18 (by decide))).trans (Cert.KernelIdeal.Gen.W17_main_arg18 m g c),
        (h _ (Cert.KernelIdeal.Gen.mem_uc Cert.KernelIdeal.main_arg19 (by decide))).trans (Cert.KernelIdeal.Gen.W17_main_arg19 m g c),
        (h _ (Cert.KernelIdeal.Gen.mem_uc Cert.KernelIdeal.main_arg20 (by decide))).trans (Cert.KernelIdeal.Gen.W17_main_arg20 m g c),
        (h _ (Cert.KernelIdeal.Gen.mem_uc Cert.KernelIdeal.main_arg21 (by decide))).trans (Cert.KernelIdeal.Gen.W17_main_arg21 m g c),
        (h _ (Cert.KernelIdeal.Gen.mem_uc Cert.KernelIdeal.main_arg22 (by decide))).trans (Cert.KernelIdeal.Gen.W17_main_arg22 m g c),
        (h _ (Cert.KernelIdeal.Gen.mem_uc Cert.KernelIdeal.main_arg23 (by decide))).trans (Cert.KernelIdeal.Gen.W17_main_arg23 m g c),
        (h _ (Cert.KernelIdeal.Gen.mem_uc Cert.KernelIdeal.main_arg24 (by decide))).trans (Cert.KernelIdeal.Gen.W17_main_arg24 m g c)⟩
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14, e15, e16, e17, e18, e19, e20, e21, e22, e23, e24⟩ := hargs c
    refine ⟨(h c).1.trans ?_, (h c).2.1.trans ?_, (h c).2.2.1.trans ?_, (h c).2.2.2⟩
    · refine (Cert.ReferenceIdeal.Read.val_main_v319_eq (StableHlo.launchContents m' c)).trans ?_
      change Cert.ReferenceIdeal.Read.val_main_v319 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18)) = _
      rw [e0, e1, e3, e4, e11, e12, e17, e18]
    · refine (Cert.ReferenceIdeal.Read.val_main_v351_eq (StableHlo.launchContents m' c)).trans ?_
      change Cert.ReferenceIdeal.Read.val_main_v351 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg19))
          (m' ((c.tc : Thread Cert.ReferenceIdeal.nD Cert.ReferenceIdeal.τ).loc Cert.ReferenceIdeal.main_arg20))
          (m' ((c.tc : Thread Cert.ReferenceIdeal.nD Cert.ReferenceIdeal.τ).loc Cert.ReferenceIdeal.main_arg23))
          (m' ((c.tc : Thread Cert.ReferenceIdeal.nD Cert.ReferenceIdeal.τ).loc Cert.ReferenceIdeal.main_arg24)) = _
      rw [e0, e1, e2, e5, e6, e9, e10, e13, e14, e15, e16, e19, e20, e23, e24]
    · refine (Cert.ReferenceIdeal.Read.val_main_v353_eq (StableHlo.launchContents m' c)).trans ?_
      change Cert.ReferenceIdeal.Read.val_main_v353 (F := Ideal)
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg21))
          (m' ((c.tc : Thread Cert.ReferenceIdeal.nD Cert.ReferenceIdeal.τ).loc Cert.ReferenceIdeal.main_arg22)) = _
      rw [e1, e2, e7, e8, e21, e22]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, algebraic⟩

end Cert.Proof

end
